-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S8192x1408 : Shape := ⟨2, ![8192, 1408]⟩
abbrev S64x2816 : Shape := ⟨2, ![64, 2816]⟩
abbrev S128x8192 : Shape := ⟨2, ![128, 8192]⟩
abbrev S128x2816 : Shape := ⟨2, ![128, 2816]⟩
abbrev S8192x128 : Shape := ⟨2, ![8192, 128]⟩
abbrev S64x256 : Shape := ⟨2, ![64, 256]⟩
abbrev S128x256 : Shape := ⟨2, ![128, 256]⟩
abbrev S2x2x32x128 : Shape := ⟨4, ![2, 2, 32, 128]⟩
abbrev S128x128 : Shape := ⟨2, ![128, 128]⟩
abbrev S128x128x1 : Shape := ⟨3, ![128, 128, 1]⟩
abbrev S64x128 : Shape := ⟨2, ![64, 128]⟩
abbrev S64x128x1 : Shape := ⟨3, ![64, 128, 1]⟩
abbrev S32x2x128 : Shape := ⟨3, ![32, 2, 128]⟩
abbrev S32x1x128 : Shape := ⟨3, ![32, 1, 128]⟩
abbrev S32x128 : Shape := ⟨2, ![32, 128]⟩
abbrev S1x1x32x128 : Shape := ⟨4, ![1, 1, 32, 128]⟩
abbrev S8x128 : Shape := ⟨2, ![8, 128]⟩
abbrev S8x8x128 : Shape := ⟨3, ![8, 8, 128]⟩
abbrev S8x1x128 : Shape := ⟨3, ![8, 1, 128]⟩
abbrev S1x1x16x128 : Shape := ⟨4, ![1, 1, 16, 128]⟩
abbrev S16x128 : Shape := ⟨2, ![16, 128]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S128x1x8192, .bf16⟩
  | .hbm, ⟨1, _⟩ => ⟨S8192x1408, .i8⟩
  | .hbm, ⟨2, _⟩ => ⟨S64x2816, .bf16⟩
  | .hbm, ⟨3, _⟩ => ⟨S8192x1408, .i8⟩
  | .hbm, ⟨4, _⟩ => ⟨S64x2816, .bf16⟩
  | .hbm, ⟨5, _⟩ => ⟨S128x8192, .bf16⟩
  | .hbm, ⟨6, _⟩ => ⟨S128x2816, .bf16⟩
  | .local _ .vmem, ⟨0, _⟩ => ⟨S128x8192, .bf16⟩
  | .local _ .vmem, ⟨1, _⟩ => ⟨S8192x128, .i8⟩
  | .local _ .vmem, ⟨2, _⟩ => ⟨S8192x128, .i8⟩
  | .local _ .vmem, ⟨3, _⟩ => ⟨S64x256, .bf16⟩
  | .local _ .vmem, ⟨4, _⟩ => ⟨S64x256, .bf16⟩
  | .local _ .vmem, ⟨5, _⟩ => ⟨S8192x128, .i8⟩
  | .local _ .vmem, ⟨6, _⟩ => ⟨S8192x128, .i8⟩
  | .local _ .vmem, ⟨7, _⟩ => ⟨S64x256, .bf16⟩
  | .local _ .vmem, ⟨8, _⟩ => ⟨S64x256, .bf16⟩
  | .local _ .vmem, ⟨9, _⟩ => ⟨S128x256, .bf16⟩
  | .local _ .vmem, ⟨10, _⟩ => ⟨S128x256, .bf16⟩
  | .local _ .vmem, ⟨11, _⟩ => ⟨S128x8192, .bf16⟩
  | .local _ .vmem, ⟨12, _⟩ => ⟨S2x2x32x128, .f32⟩
  | .local _ .vmem, ⟨13, _⟩ => ⟨S2x2x32x128, .f32⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S128x1x8192 : Shape := ⟨3, ![128, 1, 8192]⟩
abbrev S8192x1408 : Shape := ⟨2, ![8192, 1408]⟩
abbrev S64x2816 : Shape := ⟨2, ![64, 2816]⟩
abbrev S_ : Shape := ⟨0, ![]⟩
abbrev S64x1408 : Shape := ⟨2, ![64, 1408]⟩
abbrev S64x128x1408 : Shape := ⟨3, ![64, 128, 1408]⟩
abbrev S64x1x1408 : Shape := ⟨3, ![64, 1, 1408]⟩
abbrev S128x1x1408 : Shape := ⟨3, ![128, 1, 1408]⟩
abbrev S128x1x1408x1 : Shape := ⟨4, ![128, 1, 1408, 1]⟩
abbrev S128x1x1408x2 : Shape := ⟨4, ![128, 1, 1408, 2]⟩
abbrev S128x1x2816 : Shape := ⟨3, ![128, 1, 2816]⟩
abbrev S128x2816 : Shape := ⟨2, ![128, 2816]⟩

abbrev nBuf : Space → Nat
  | .hbm => 83
  | .vmem => 0
  | .smem => 0
  | _ => 0

abbrev bufTy : (tb : Table) → Fin (tcTables nBuf tb) → BufTy
  | .hbm, ⟨0, _⟩ => ⟨S128x1x8192, .bf16⟩
  | .hbm, ⟨1, _⟩ => ⟨S8192x1408, .i8⟩
  | .hbm, ⟨2, _⟩ => ⟨S64x2816, .bf16⟩
  | .hbm, ⟨3, _⟩ => ⟨S8192x1408, .i8⟩
  | .hbm, ⟨4, _⟩ => ⟨S64x2816, .bf16⟩
  | .hbm, ⟨5, _⟩ => ⟨S8192x1408, .i32⟩
  | .hbm, ⟨6, _⟩ => ⟨S_, .i32⟩
  | .hbm, ⟨7, _⟩ => ⟨S8192x1408, .i32⟩
  | .hbm, ⟨8, _⟩ => ⟨S8192x1408, .i32⟩
  | .hbm, ⟨9, _⟩ => ⟨S_, .i32⟩
  | .hbm, ⟨10, _⟩ => ⟨S8192x1408, .i32⟩
  | .hbm, ⟨11, _⟩ => ⟨S8192x1408, .i32⟩
  | .hbm, ⟨12, _⟩ => ⟨S64x1408, .bf16⟩
  | .hbm, ⟨13, _⟩ => ⟨S8192x1408, .bf16⟩
  | .hbm, ⟨14, _⟩ => ⟨S_, .bf16⟩
  | .hbm, ⟨15, _⟩ => ⟨S8192x1408, .bf16⟩
  | .hbm, ⟨16, _⟩ => ⟨S8192x1408, .bf16⟩
  | .hbm, ⟨17, _⟩ => ⟨S64x128x1408, .bf16⟩
  | .hbm, ⟨18, _⟩ => ⟨S64x1x1408, .bf16⟩
  | .hbm, ⟨19, _⟩ => ⟨S64x128x1408, .bf16⟩
  | .hbm, ⟨20, _⟩ => ⟨S64x128x1408, .bf16⟩
  | .hbm, ⟨21, _⟩ => ⟨S8192x1408, .bf16⟩
  | .hbm, ⟨22, _⟩ => ⟨S64x1408, .bf16⟩
  | .hbm, ⟨23, _⟩ => ⟨S8192x1408, .bf16⟩
  | .hbm, ⟨24, _⟩ => ⟨S_, .bf16⟩
  | .hbm, ⟨25, _⟩ => ⟨S8192x1408, .bf16⟩
  | .hbm, ⟨26, _⟩ => ⟨S8192x1408, .bf16⟩
  | .hbm, ⟨27, _⟩ => ⟨S64x128x1408, .bf16⟩
  | .hbm, ⟨28, _⟩ => ⟨S64x1x1408, .bf16⟩
  | .hbm, ⟨29, _⟩ => ⟨S64x128x1408, .bf16⟩
  | .hbm, ⟨30, _⟩ => ⟨S64x128x1408, .bf16⟩
  | .hbm, ⟨31, _⟩ => ⟨S8192x1408, .bf16⟩
  | .hbm, ⟨32, _⟩ => ⟨S128x1x1408, .f32⟩
  | .hbm, ⟨33, _⟩ => ⟨S128x1x1408, .f32⟩
  | .hbm, ⟨34, _⟩ => ⟨S128x1x1408x1, .f32⟩
  | .hbm, ⟨35, _⟩ => ⟨S128x1x1408x1, .f32⟩
  | .hbm, ⟨36, _⟩ => ⟨S128x1x1408x2, .f32⟩
  | .hbm, ⟨37, _⟩ => ⟨S128x1x2816, .f32⟩
  | .hbm, ⟨38, _⟩ => ⟨S8192x1408, .i32⟩
  | .hbm, ⟨39, _⟩ => ⟨S_, .i32⟩
  | .hbm, ⟨40, _⟩ => ⟨S8192x1408, .i32⟩
  | .hbm, ⟨41, _⟩ => ⟨S8192x1408, .i32⟩
  | .hbm, ⟨42, _⟩ => ⟨S_, .i32⟩
  | .hbm, ⟨43, _⟩ => ⟨S8192x1408, .i32⟩
  | .hbm, ⟨44, _⟩ => ⟨S8192x1408, .i32⟩
  | .hbm, ⟨45, _⟩ => ⟨S64x1408, .bf16⟩
  | .hbm, ⟨46, _⟩ => ⟨S8192x1408, .bf16⟩
  | .hbm, ⟨47, _⟩ => ⟨S_, .bf16⟩
  | .hbm, ⟨48, _⟩ => ⟨S8192x1408, .bf16⟩
  | .hbm, ⟨49, _⟩ => ⟨S8192x1408, .bf16⟩
  | .hbm, ⟨50, _⟩ => ⟨S64x128x1408, .bf16⟩
  | .hbm, ⟨51, _⟩ => ⟨S64x1x1408, .bf16⟩
  | .hbm, ⟨52, _⟩ => ⟨S64x128x1408, .bf16⟩
  | .hbm, ⟨53, _⟩ => ⟨S64x128x1408, .bf16⟩
  | .hbm, ⟨54, _⟩ => ⟨S8192x1408, .bf16⟩
  | .hbm, ⟨55, _⟩ => ⟨S64x1408, .bf16⟩
  | .hbm, ⟨56, _⟩ => ⟨S8192x1408, .bf16⟩
  | .hbm, ⟨57, _⟩ => ⟨S_, .bf16⟩
  | .hbm, ⟨58, _⟩ => ⟨S8192x1408, .bf16⟩
  | .hbm, ⟨59, _⟩ => ⟨S8192x1408, .bf16⟩
  | .hbm, ⟨60, _⟩ => ⟨S64x128x1408, .bf16⟩
  | .hbm, ⟨61, _⟩ => ⟨S64x1x1408, .bf16⟩
  | .hbm, ⟨62, _⟩ => ⟨S64x128x1408, .bf16⟩
  | .hbm, ⟨63, _⟩ => ⟨S64x128x1408, .bf16⟩
  | .hbm, ⟨64, _⟩ => ⟨S8192x1408, .bf16⟩
  | .hbm, ⟨65, _⟩ => ⟨S128x1x1408, .f32⟩
  | .hbm, ⟨66, _⟩ => ⟨S128x1x1408, .f32⟩
  | .hbm, ⟨67, _⟩ => ⟨S128x1x1408x1, .f32⟩
  | .hbm, ⟨68, _⟩ => ⟨S128x1x1408x1, .f32⟩
  | .hbm, ⟨69, _⟩ => ⟨S128x1x1408x2, .f32⟩
  | .hbm, ⟨70, _⟩ => ⟨S128x1x2816, .f32⟩
  | .hbm, ⟨71, _⟩ => ⟨S128x1x2816, .f32⟩
  | .hbm, ⟨72, _⟩ => ⟨S128x1x2816, .f32⟩
  | .hbm, ⟨73, _⟩ => ⟨S_, .f32⟩
  | .hbm, ⟨74, _⟩ => ⟨S128x1x2816, .f32⟩
  | .hbm, ⟨75, _⟩ => ⟨S128x1x2816, .f32⟩
  | .hbm, ⟨76, _⟩ => ⟨S_, .f32⟩
  | .hbm, ⟨77, _⟩ => ⟨S128x1x2816, .f32⟩
  | .hbm, ⟨78, _⟩ => ⟨S128x1x2816, .f32⟩
  | .hbm, ⟨79, _⟩ => ⟨S128x1x2816, .f32⟩
  | .hbm, ⟨80, _⟩ => ⟨S128x1x2816, .f32⟩
  | .hbm, ⟨81, _⟩ => ⟨S128x1x2816, .bf16⟩
  | .hbm, ⟨82, _⟩ => ⟨S128x2816, .bf16⟩
  | _, _ => ⟨S128x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== Proof.Printed.First.lean ====
/-
  The body of the kernel as printed with its first-point branch taken apart: at the first grid point it is the lane permutation of
  the left operand (`permuteX`) followed by what it does at a later point; at every later point it is the same program.
-/
module

public import proofs.«01_k».proof.Proof.Gen.Kernel.Frame
public import proofs.«01_k».proof.Proof.Gen.Kernel.Skeleton
public import Idealize.ShloMosaic.Lib.Claim

@[expose] public section

noncomputable section

namespace Cert.Proof.Printed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The word the body tests: 1 exactly at the first grid point. -/
abbrev firstWord (i : grid0.Coords) : BitVec 1 :=
  Scalar.cmpi .ne (Scalar.extui (Scalar.cmpi .eq (BitVec.ofNat 32 (i 0).val) 0#32) : BitVec 32) 0#32

/-- The second grid point's coordinates: a point at which the branch is not taken. -/
abbrev iLater : grid0.Coords := grid0.coords t0_1

/-- The branch is taken at the first point and at no other. -/
theorem firstWord_iff : ∀ t : Fin cfg0.N, firstWord (grid0.coords t) = 1#1 ↔ t.val = 0 := by decide

theorem iLater_not_first : ¬ firstWord iLater = 1#1 := by decide

/-- What the body does at the first point before the rest: the left operand's lanes permuted into the scratch. -/
noncomputable def permuteX (i : grid0.Coords)
    (M1 : Memref sig .tc .vmem S128x8192 .bf16) (h1 : M1.IsWhole) (M2 : Memref sig .tc .vmem S8192x128 .i8) (h2 : M2.IsWhole)
    (M3 : Memref sig .tc .vmem S64x256 .bf16) (h3 : M3.IsWhole) (M4 : Memref sig .tc .vmem S8192x128 .i8) (h4 : M4.IsWhole)
    (M5 : Memref sig .tc .vmem S64x256 .bf16) (h5 : M5.IsWhole) (M6 : Memref sig .tc .vmem S128x256 .bf16) (h6 : M6.IsWhole)
    (M7 : Memref sig .tc .vmem S128x8192 .bf16) (h7 : M7.IsWhole) (M8 : Memref sig .tc .vmem S2x2x32x128 .f32) (h8 : M8.IsWhole)
    (M9 : Memref sig .tc .vmem S2x2x32x128 .f32) (h9 : M9.IsWhole) : Prog (TpuEff nD τ sig (Elt F) Λ₀ .tc) PUnit := do
  let ⟨v1922, v1930, v1932⟩ : Σ' (v1922 : FVec F S128x128 .bf16) (v1930 : IVec S128x128 32), IVec S128x128 32 ←
    k0_part43 i M1 h1 M2 h2 M3 h3 M4 h4 M5 h5 M6 h6 M7 h7 M8 h8 M9 h9
  let v1946 : Vec F S128x128 .bf16 ← Prog.lift (.load M7 (Rect.unit (s := S128x8192) ![0, 8064] S128x128.size inb_S128x8192_S128x128_0_8064).toLoadRect (View.loadsAt_vmem h_S128x128))
  Prog.lift (.store M7 (Rect.unit (s := S128x8192) ![0, 8064] S128x128.size inb_S128x8192_S128x128_0_8064) (k0_pay152 v1922 v1930 v1932) Finset.univ (View.stores_vmem h_S128x128 (h7.storeExact_slice rfl _ packedbf16_S128x8192_S128x128_0_8064) (fun _ => rfl)) (.inl rfl))
  pure ⟨⟩

variable (i i' : grid0.Coords)
    (M1 : Memref sig .tc .vmem S128x8192 .bf16) (h1 : M1.IsWhole) (M2 : Memref sig .tc .vmem S8192x128 .i8) (h2 : M2.IsWhole)
    (M3 : Memref sig .tc .vmem S64x256 .bf16) (h3 : M3.IsWhole) (M4 : Memref sig .tc .vmem S8192x128 .i8) (h4 : M4.IsWhole)
    (M5 : Memref sig .tc .vmem S64x256 .bf16) (h5 : M5.IsWhole) (M6 : Memref sig .tc .vmem S128x256 .bf16) (h6 : M6.IsWhole)
    (M7 : Memref sig .tc .vmem S128x8192 .bf16) (h7 : M7.IsWhole) (M8 : Memref sig .tc .vmem S2x2x32x128 .f32) (h8 : M8.IsWhole)
    (M9 : Memref sig .tc .vmem S2x2x32x128 .f32) (h9 : M9.IsWhole)

theorem part44_first (h : firstWord i = 1#1) (h' : ¬ firstWord i' = 1#1) :
    k0_part44 (F := F) i M1 h1 M2 h2 M3 h3 M4 h4 M5 h5 M6 h6 M7 h7 M8 h8 M9 h9
      = permuteX i M1 h1 M2 h2 M3 h3 M4 h4 M5 h5 M6 h6 M7 h7 M8 h8 M9 h9 >>= fun _ =>
        k0_part44 i' M1 h1 M2 h2 M3 h3 M4 h4 M5 h5 M6 h6 M7 h7 M8 h8 M9 h9 := by
  simp only [k0_part44_eq_skeleton]
  unfold k0_part44_skel permuteX
  simp only [dif_pos h, dif_neg h']
  simp only [bind_assoc, pure_bind]

theorem part44_later (h : ¬ firstWord i = 1#1) (h' : ¬ firstWord i' = 1#1) :
    k0_part44 (F := F) i M1 h1 M2 h2 M3 h3 M4 h4 M5 h5 M6 h6 M7 h7 M8 h8 M9 h9
      = k0_part44 i' M1 h1 M2 h2 M3 h3 M4 h4 M5 h5 M6 h6 M7 h7 M8 h8 M9 h9 := by
  simp only [k0_part44_eq_skeleton]
  unfold k0_part44_skel
  simp only [dif_neg h, dif_neg h']

/-- At the first point the body is the permutation, then what it is at a later point. -/
theorem body_first (h : firstWord i = 1#1) (h' : ¬ firstWord i' = 1#1) :
    cc0_int4_swiglu (F := F) i M1 h1 M2 h2 M3 h3 M4 h4 M5 h5 M6 h6 M7 h7 M8 h8 M9 h9
      = permuteX i M1 h1 M2 h2 M3 h3 M4 h4 M5 h5 M6 h6 M7 h7 M8 h8 M9 h9 >>= fun _ =>
        cc0_int4_swiglu i' M1 h1 M2 h2 M3 h3 M4 h4 M5 h5 M6 h6 M7 h7 M8 h8 M9 h9 := by
  unfold cc0_int4_swiglu k0_part433
  rw [part44_first i i' M1 h1 M2 h2 M3 h3 M4 h4 M5 h5 M6 h6 M7 h7 M8 h8 M9 h9 h h']
  simp only [bind_assoc]
  rfl

/-- At two later points the body is the same program. -/
theorem body_later (h : ¬ firstWord i = 1#1) (h' : ¬ firstWord i' = 1#1) :
    cc0_int4_swiglu (F := F) i M1 h1 M2 h2 M3 h3 M4 h4 M5 h5 M6 h6 M7 h7 M8 h8 M9 h9
      = cc0_int4_swiglu i' M1 h1 M2 h2 M3 h3 M4 h4 M5 h5 M6 h6 M7 h7 M8 h8 M9 h9 := by
  unfold cc0_int4_swiglu k0_part433
  rw [part44_later i i' M1 h1 M2 h2 M3 h3 M4 h4 M5 h5 M6 h6 M7 h7 M8 h8 M9 h9 h h']
  rfl

end Cert.Proof.Printed

end
-- ==== Proof.Printed.Run.lean ====
/-
  The body of the kernel as printed run: what the permutation leaves in the scratch, and what the rest leaves in the output block.
-/
module

public import proofs.«01_k».proof.Proof.Printed.First

@[expose] public section

noncomputable section

namespace Cert.Proof.Printed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the buffer memref `M` is on, on core `c`, and that buffer held at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The permutation: what it leaves in the scratch, from the left operand, with the proof that it does. -/
noncomputable def permuteRun (c : Dev nD) (i : grid0.Coords)
    (M1 : Memref sig .tc .vmem S128x8192 .bf16) (h1 : M1.IsWhole) (M2 : Memref sig .tc .vmem S8192x128 .i8) (h2 : M2.IsWhole)
    (M3 : Memref sig .tc .vmem S64x256 .bf16) (h3 : M3.IsWhole) (M4 : Memref sig .tc .vmem S8192x128 .i8) (h4 : M4.IsWhole)
    (M5 : Memref sig .tc .vmem S64x256 .bf16) (h5 : M5.IsWhole) (M6 : Memref sig .tc .vmem S128x256 .bf16) (h6 : M6.IsWhole)
    (M7 : Memref sig .tc .vmem S128x8192 .bf16) (h7 : M7.IsWhole) (M8 : Memref sig .tc .vmem S2x2x32x128 .f32) (h8 : M8.IsWhole)
    (M9 : Memref sig .tc .vmem S2x2x32x128 .f32) (h9 : M9.IsWhole)
    (f1 : Bf (F := F) c M1) :
    { W : Bf (F := F) c M7 //
      ∀ (f7 : Bf (F := F) c M7) (E : Set ℕ) (Q : PUnit → sProp 𝕄),
        iprop(pt c M1 f1 ∗ pt c M7 f7 ∗ (iprop(pt c M1 f1 ∗ pt c M7 W) -∗ Q ⟨⟩))
        ⊢ wp frame (wpE (defs₀ (F := F)) Variants.none c none) E
            (permuteX i M1 h1 M2 h2 M3 h3 M4 h4 M5 h5 M6 h6 M7 h7 M8 h8 M9 h9) Q } := by
  refine ⟨?_, fun f7 E Q => ?run⟩
  case run =>
    iintro ⟨H1, H7, Hk⟩
    unfold permuteX
    sl_exec_parts!
    sl_step
    iapply Hk
    isplitl [H1]; · iexact H1
    iexact H7

/-- The body at a later point: what it leaves in the output block, from the blocks and the scratch holding the permuted left
    operand, with the proof that it does. -/
noncomputable def laterRun (c : Dev nD) (i : grid0.Coords) (hi : ¬ firstWord i = 1#1)
    (M1 : Memref sig .tc .vmem S128x8192 .bf16) (h1 : M1.IsWhole) (M2 : Memref sig .tc .vmem S8192x128 .i8) (h2 : M2.IsWhole)
    (M3 : Memref sig .tc .vmem S64x256 .bf16) (h3 : M3.IsWhole) (M4 : Memref sig .tc .vmem S8192x128 .i8) (h4 : M4.IsWhole)
    (M5 : Memref sig .tc .vmem S64x256 .bf16) (h5 : M5.IsWhole) (M6 : Memref sig .tc .vmem S128x256 .bf16) (h6 : M6.IsWhole)
    (M7 : Memref sig .tc .vmem S128x8192 .bf16) (h7 : M7.IsWhole) (M8 : Memref sig .tc .vmem S2x2x32x128 .f32) (h8 : M8.IsWhole)
    (M9 : Memref sig .tc .vmem S2x2x32x128 .f32) (h9 : M9.IsWhole)
    (f2 : Bf (F := F) c M2) (f3 : Bf (F := F) c M3) (f4 : Bf (F := F) c M4) (f5 : Bf (F := F) c M5) (f7 : Bf (F := F) c M7) :
    { W : Bf (F := F) c M6 //
      ∀ (f6 : Bf (F := F) c M6) (f8 : Bf (F := F) c M8) (f9 : Bf (F := F) c M9) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9
          ∗ (iprop(pt c M2 f2 ∗ pt c M3 f3 ∗ pt c M4 f4 ∗ pt c M5 f5 ∗ pt c M6 W ∗ pt c M7 f7 ∗ (∃ f, pt c M8 f) ∗ (∃ f, pt c M9 f)) -∗ Q ⟨⟩))
        ⊢ wp frame (wpE (defs₀ (F := F)) Variants.none c none) E
            (cc0_int4_swiglu i M1 h1 M2 h2 M3 h3 M4 h4 M5 h5 M6 h6 M7 h7 M8 h8 M9 h9) Q } := by
  refine ⟨?_, fun f6 f8 f9 E Q => ?run⟩
  case run =>
    iintro ⟨H2, H3, H4, H5, H6, H7, H8, H9, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

end Cert.Proof.Printed

end
-- ==== Proof.Printed.Frame.lean ====
/-
  The run and the frame of the kernel as printed: the body's triple over what its blocks read, the pipeline's proof data (the scratch
  holds the permuted left operand from the first point on), the launch, the arguments unchanged, the counters at zero.
-/
module

public import proofs.«01_k».proof.Proof.Printed.Run

@[expose] public section

noncomputable section

namespace Cert.Proof.Printed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
    (M1 : Memref sig .tc .vmem S128x8192 .bf16) (h1 : M1.IsWhole) (M2 : Memref sig .tc .vmem S8192x128 .i8) (h2 : M2.IsWhole)
    (M3 : Memref sig .tc .vmem S64x256 .bf16) (h3 : M3.IsWhole) (M4 : Memref sig .tc .vmem S8192x128 .i8) (h4 : M4.IsWhole)
    (M5 : Memref sig .tc .vmem S64x256 .bf16) (h5 : M5.IsWhole) (M6 : Memref sig .tc .vmem S128x256 .bf16) (h6 : M6.IsWhole)
    (M7 : Memref sig .tc .vmem S128x8192 .bf16) (h7 : M7.IsWhole) (M8 : Memref sig .tc .vmem S2x2x32x128 .f32) (h8 : M8.IsWhole)
    (M9 : Memref sig .tc .vmem S2x2x32x128 .f32) (h9 : M9.IsWhole)

/-- What the scratch reads after the permutation of a left operand reading `x1`. -/
def permuted (x1 : Vec F S128x8192 .bf16) : Vec F S128x8192 .bf16 :=
  M7.view.read (Elt F) (permuteRun c i M1 h1 M2 h2 M3 h3 M4 h4 M5 h5 M6 h6 M7 h7 M8 h8 M9 h9 (h1.unread x1)).1

/-- What the output block reads after the body at a later point, from what the blocks and the scratch read. -/
def outBlock (x2 : Vec F S8192x128 .i8) (x3 : Vec F S64x256 .bf16) (x4 : Vec F S8192x128 .i8) (x5 : Vec F S64x256 .bf16)
    (x7 : Vec F S128x8192 .bf16) : Vec F S128x256 .bf16 :=
  M6.view.read (Elt F) (laterRun c iLater iLater_not_first M1 h1 M2 h2 M3 h3 M4 h4 M5 h5 M6 h6 M7 h7 M8 h8 M9 h9 (h2.unread x2) (h3.unread x3) (h4.unread x4) (h5.unread x5) (h7.unread x7)).1

theorem sound_permute (E : Set ℕ) (x1 : Vec F S128x8192 .bf16) (Q : PUnit → sProp 𝕄) :
    iprop(owns (c : Thread nD τ) M1 fullShare x1 ∗ (∃ d, owns (c : Thread nD τ) M7 fullShare d)
        ∗ (iprop(owns (c : Thread nD τ) M1 fullShare x1 ∗ owns (c : Thread nD τ) M7 fullShare (permuted c i M1 h1 M2 h2 M3 h3 M4 h4 M5 h5 M6 h6 M7 h7 M8 h8 M9 h9 x1)) -∗ Q ⟨⟩))
      ⊢ wp frame (wpE (defs₀ (F := F)) Variants.none c none) E (permuteX i M1 h1 M2 h2 M3 h3 M4 h4 M5 h5 M6 h6 M7 h7 M8 h8 M9 h9) Q := by
  unfold owns
  iintro ⟨⟨%f1, %hf1, H1⟩, ⟨%d7, %f7, -, H7⟩, Hk⟩
  obtain rfl := h1.eq_unread hf1
  iapply ((permuteRun c i M1 h1 M2 h2 M3 h3 M4 h4 M5 h5 M6 h6 M7 h7 M8 h8 M9 h9 (h1.unread x1)).2 f7 E Q)
  isplitl [H1]; · iexact H1
  isplitl [H7]; · iexact H7
  iintro ⟨H1, H7⟩
  iapply Hk
  isplitl [H1]
  · iexists _; isplitr
    · ipureintro; exact hf1
    iexact H1
  iexists _; isplitr
  swap; · iexact H7
  ipureintro; rfl

theorem sound_later (E : Set ℕ) (x2 : Vec F S8192x128 .i8) (x3 : Vec F S64x256 .bf16) (x4 : Vec F S8192x128 .i8) (x5 : Vec F S64x256 .bf16)
    (x7 : Vec F S128x8192 .bf16) (Q : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5
        ∗ (∃ d, owns (c : Thread nD τ) M6 fullShare d) ∗ owns (c : Thread nD τ) M7 fullShare x7 ∗ (∃ d, owns (c : Thread nD τ) M8 fullShare d) ∗ (∃ d, owns (c : Thread nD τ) M9 fullShare d)
        ∗ (iprop(owns (c : Thread nD τ) M2 fullShare x2 ∗ owns (c : Thread nD τ) M3 fullShare x3 ∗ owns (c : Thread nD τ) M4 fullShare x4 ∗ owns (c : Thread nD τ) M5 fullShare x5
            ∗ owns (c : Thread nD τ) M6 fullShare (outBlock c M1 h1 M2 h2 M3 h3 M4 h4 M5 h5 M6 h6 M7 h7 M8 h8 M9 h9 x2 x3 x4 x5 x7) ∗ owns (c : Thread nD τ) M7 fullShare x7
            ∗ (∃ d, owns (c : Thread nD τ) M8 fullShare d) ∗ (∃ d, owns (c : Thread nD τ) M9 fullShare d)) -∗ Q ⟨⟩))
      ⊢ wp frame (wpE (defs₀ (F := F)) Variants.none c none) E (cc0_int4_swiglu iLater M1 h1 M2 h2 M3 h3 M4 h4 M5 h5 M6 h6 M7 h7 M8 h8 M9 h9) Q := by
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  obtain rfl := h2.eq_unread hf2
  obtain rfl := h3.eq_unread hf3
  obtain rfl := h4.eq_unread hf4
  obtain rfl := h5.eq_unread hf5
  obtain rfl := h7.eq_unread hf7
  iapply ((laterRun c iLater iLater_not_first M1 h1 M2 h2 M3 h3 M4 h4 M5 h5 M6 h6 M7 h7 M8 h8 M9 h9 (h2.unread x2) (h3.unread x3) (h4.unread x4) (h5.unread x5) (h7.unread x7)).2 f6 f8 f9 E Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, ⟨%g8, H8⟩, ⟨%g9, H9⟩⟩
  iapply Hk
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    swap; · iexact H6
    ipureintro; rfl
  isplitl [H7]
  · iexists _; isplitr
    · ipureintro; exact hf7
    iexact H7
  isplitl [H8]
  · iexists _; iexists g8; isplitr
    · ipureintro; rfl
    iexact H8
  iexists _; iexists g9; isplitr
  · ipureintro; rfl
  iexact H9

end Body

variable (m : (ℓ : Loc nD τ sig) → Buf (Elt F) ℓ) (ρ : Dev nD → PrngReg)

/-! ## The pipeline's proof data -/

/-- What the scratch reads from the first point on: the permuted left operand, as the body at the first point leaves it. -/
def scratchX (c : Dev nD) : Vec F S128x8192 .bf16 :=
  (fun t : Fin cfg0.N => permuted c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (iblk m c 0 t)) t0_0

/-- What the body leaves in the output window's buffer at point `t`. -/
def outAt (c : Dev nD) (t : Fin cfg0.N) : Vec F S128x256 .bf16 :=
  outBlock c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (iblk m c 1 t) (iblk m c 2 t) (iblk m c 3 t) (iblk m c 4 t) (scratchX m c)

/-- Between points: before the first, the scratch at anything; then the permuted left operand in its buffer. -/
def Φs (c : Dev nD) (k : Fin (cfg0.N + 1)) : sProp 𝕄 :=
  if k.val = 0 then Pipeline.ΦA spec0 c
  else iprop(owns (c : Thread nD τ) (Memref.whole cc0_scratch0) fullShare (scratchX m c)
    ∗ (∃ d, owns (c : Thread nD τ) (Memref.whole cc0_scratch1) fullShare d) ∗ (∃ d, owns (c : Thread nD τ) (Memref.whole cc0_scratch2) fullShare d)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ k := Φs m c k
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The class's invariant opened: the three scratch buffers at anything and the generator register. -/
theorem ΦA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)) ∗ ∃ r, prngReg c r) := by
  unfold Pipeline.ΦA
  rw [scopedRest0_eq]
  have h : ∀ b : Ref sig .tc, (iprop(∃ d, owns (c : Thread nD τ) (Memref.whole b) fullShare d) : sProp 𝕄)
      = iprop(∃ f : Buf (Elt F) ((c : Thread nD τ).loc b), ((c : Thread nD τ).loc b) ↦{fullShare} f) := by
    intro b
    have h₁ : (iprop(∃ d, owns (c : Thread nD τ) (Memref.whole b) fullShare d) : sProp 𝕄)
        ⊢ iprop(∃ f : Buf (Elt F) ((c : Thread nD τ).loc b), ((c : Thread nD τ).loc b) ↦{fullShare} f) := by
      simp only [owns_whole_eq]
      iintro ⟨%d, %f, -, H⟩; iexists f; iexact H
    have h₂ : (iprop(∃ f : Buf (Elt F) ((c : Thread nD τ).loc b), ((c : Thread nD τ).loc b) ↦{fullShare} f) : sProp 𝕄)
        ⊢ iprop(∃ d, owns (c : Thread nD τ) (Memref.whole b) fullShare d) := by
      simp only [owns_whole_eq]
      iintro ⟨%f, H⟩; iexists f; iexists f; isplitr
      · ipureintro; rfl
      iexact H
    exact BI.Entails.antisymm h₁ h₂
  rw [h, h, h]

/-- What the body is given of the invariant after the first point. -/
theorem Φs_pos (c : Dev nD) (k : Fin (cfg0.N + 1)) (hk : ¬ k.val = 0) : Φs m c k
    = iprop(owns (c : Thread nD τ) (Memref.whole cc0_scratch0) fullShare (scratchX m c)
    ∗ (∃ d, owns (c : Thread nD τ) (Memref.whole cc0_scratch1) fullShare d) ∗ (∃ d, owns (c : Thread nD τ) (Memref.whole cc0_scratch2) fullShare d)
    ∗ ∃ r, prngReg c r) := by
  unfold Φs; rw [if_neg hk]

/-- The body at a later point: the scratch is found, and left, at the permuted left operand. -/
theorem sound_at (c : Dev nD) (t : Fin cfg0.N) (x0 : Vec F S128x8192 .bf16) :
    iprop(Φs m c t.succ ∗ (dats m 0 c).owesAt () t.castSucc
        ∗ owns (c : Thread nD τ) (st0_0 t) fullShare x0
        ∗ owns (c : Thread nD τ) (st0_1 t) fullShare (iblk m c 1 t) ∗ owns (c : Thread nD τ) (st0_2 t) fullShare (iblk m c 2 t)
        ∗ owns (c : Thread nD τ) (st0_3 t) fullShare (iblk m c 3 t) ∗ owns (c : Thread nD τ) (st0_4 t) fullShare (iblk m c 4 t)
        ∗ (∃ d, owns (c : Thread nD τ) (st0_5 t) fullShare d))
      ⊢ wp frame (wpE (defs₀ (F := F)) Variants.none c none) Set.univ
          (cc0_int4_swiglu iLater (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _))
          (fun _ => iprop(Φs m c t.succ ∗ (dats m 0 c).owesAt () t.castSucc
        ∗ owns (c : Thread nD τ) (st0_0 t) fullShare x0
        ∗ owns (c : Thread nD τ) (st0_1 t) fullShare (iblk m c 1 t) ∗ owns (c : Thread nD τ) (st0_2 t) fullShare (iblk m c 2 t)
        ∗ owns (c : Thread nD τ) (st0_3 t) fullShare (iblk m c 3 t) ∗ owns (c : Thread nD τ) (st0_4 t) fullShare (iblk m c 4 t)
        ∗ owns (c : Thread nD τ) (st0_5 t) fullShare (outAt m c t))) := by
  rw [Φs_pos m c t.succ (by simp)]
  iintro ⟨⟨Hx, H8, H9, Hg⟩, Ho, H1, H2, H3, H4, H5, H6⟩
  iapply (sound_later c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) Set.univ (iblk m c 1 t) (iblk m c 2 t) (iblk m c 3 t) (iblk m c 4 t) (scratchX m c) _)
  isplitl [H2]; · iexact H2
  isplitl [H3]; · iexact H3
  isplitl [H4]; · iexact H4
  isplitl [H5]; · iexact H5
  isplitl [H6]; · iexact H6
  isplitl [Hx]; · iexact Hx
  isplitl [H8]; · iexact H8
  isplitl [H9]; · iexact H9
  iintro ⟨H2, H3, H4, H5, H6, Hx, H8, H9⟩
  isplitl [Hx H8 H9 Hg]
  · isplitl [Hx]; · iexact Hx
    isplitl [H8]; · iexact H8
    isplitl [H9]; · iexact H9
    iexact Hg
  isplitl [Ho]; · iexact Ho
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Φs m c t.succ from rfl, show (dats m 0 c).Φ t.castSucc = Φs m c t.castSucc from rfl,
    show (dats m 0 c).owesAt () t.succ = (dats m 0 c).owesAt () t.castSucc from rfl,
    after0_0, after0_1, after0_2, after0_3, after0_4, after0_5]
  by_cases ht : t.val = 0
  · obtain rfl : t = t0_0 := Fin.ext ht
    rw [body_first (F := F) (grid0.coords t0_0) iLater _ _ _ _ _ _ _ _ _ _ _ _ _ _ _ _ _ _ ((firstWord_iff _).2 rfl) iLater_not_first, wp_bind,
      show Φs m c t0_0.castSucc = Pipeline.ΦA spec0 c from if_pos rfl, ΦA_eq]
    iintro ⟨⟨⟨Hx, H8, H9⟩, Hg⟩, Ho, ⟨%d0, H1⟩, ⟨%d1, H2⟩, ⟨%d2, H3⟩, ⟨%d3, H4⟩, ⟨%d4, H5⟩, ⟨%d5, H6⟩⟩
    iapply (sound_permute c (grid0.coords t0_0) _ _ _ _ _ _ _ _ _ _ _ _ _ _ _ _ _ _ Set.univ (iblk m c 0 t0_0) _)
    isplitl [H1]; · iexact H1
    isplitl [Hx]; · iexact Hx
    iintro ⟨H1, Hx⟩
    iapply (sound_at m c t0_0 (iblk m c 0 t0_0))
    rw [Φs_pos m c t0_0.succ (by simp)]
    isplitl [Hx H8 H9 Hg]
    · isplitl [Hx]; · iexact Hx
      isplitl [H8]; · iexact H8
      isplitl [H9]; · iexact H9
      iexact Hg
    isplitl [Ho]; · iexact Ho
    isplitl [H1]; · iexact H1
    isplitl [H2]; · iexact H2
    isplitl [H3]; · iexact H3
    isplitl [H4]; · iexact H4
    isplitl [H5]; · iexact H5
    iexists _; iexact H6
  · rw [body_later (F := F) (grid0.coords t) iLater _ _ _ _ _ _ _ _ _ _ _ _ _ _ _ _ _ _ (fun h => ht ((firstWord_iff t).1 h)) iLater_not_first,
      show Φs m c t.castSucc = Φs m c t.succ from (Φs_pos m c t.castSucc ht).trans (Φs_pos m c t.succ (by simp)).symm]
    iintro ⟨Hx, Ho, ⟨%d0, H1⟩, ⟨%d1, H2⟩, ⟨%d2, H3⟩, ⟨%d3, H4⟩, ⟨%d4, H5⟩, ⟨%d5, H6⟩⟩
    iapply (sound_at m c t (iblk m c 0 t))
    isplitl [Hx]; · iexact Hx
    isplitl [Ho]; · iexact Ho
    isplitl [H1]; · iexact H1
    isplitl [H2]; · iexact H2
    isplitl [H3]; · iexact H3
    isplitl [H4]; · iexact H4
    isplitl [H5]; · iexact H5
    iexists _; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = Φs m c 0 from rfl, show Φs m c 0 = Pipeline.ΦA spec0 c from if_pos rfl])
    (hout := fun c => by
      rw [show (dats m 0 c).Φ (Fin.last _) = Φs m c (Fin.last _) from rfl, Φs_pos m c (Fin.last _) (by decide)]
      rw [ΦA_eq]
      iintro ⟨Hx, H8, H9, Hg⟩
      isplitr [Hg]
      · isplitl [Hx]; · iexists _; iexact Hx
        isplitl [H8]; · iexact H8
        iexact H9
      iexact Hg)

/-- Every weakly fair execution of @main terminates, and every final state has the pipeline's arrays at what the library computes
    from the proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim's statement at any `F`: the arguments end unchanged, every semaphore counter at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.Printed

end
-- ==== Proof.Ideal.First.lean ====
/-
  The body of the kernel read at the ideal floats with its first-point branch taken apart: at the first grid point it is the lane permutation of
  the left operand (`permuteX`) followed by what it does at a later point; at every later point it is the same program.
-/
module

public import proofs.«01_k».proof.Proof.Gen.KernelIdeal.Frame
public import proofs.«01_k».proof.Proof.Gen.KernelIdeal.Skeleton
public import Idealize.ShloMosaic.Lib.Claim

@[expose] public section

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The word the body tests: 1 exactly at the first grid point. -/
abbrev firstWord (i : grid0.Coords) : BitVec 1 :=
  Scalar.cmpi .ne (Scalar.extui (Scalar.cmpi .eq (BitVec.ofNat 32 (i 0).val) 0#32) : BitVec 32) 0#32

/-- The second grid point's coordinates: a point at which the branch is not taken. -/
abbrev iLater : grid0.Coords := grid0.coords t0_1

/-- The branch is taken at the first point and at no other. -/
theorem firstWord_iff : ∀ t : Fin cfg0.N, firstWord (grid0.coords t) = 1#1 ↔ t.val = 0 := by decide

theorem iLater_not_first : ¬ firstWord iLater = 1#1 := by decide

/-- What the body does at the first point before the rest: the left operand's lanes permuted into the scratch. -/
noncomputable def permuteX (i : grid0.Coords)
    (M1 : Memref sig .tc .vmem S128x8192 .bf16) (h1 : M1.IsWhole) (M2 : Memref sig .tc .vmem S8192x128 .i8) (h2 : M2.IsWhole)
    (M3 : Memref sig .tc .vmem S64x256 .bf16) (h3 : M3.IsWhole) (M4 : Memref sig .tc .vmem S8192x128 .i8) (h4 : M4.IsWhole)
    (M5 : Memref sig .tc .vmem S64x256 .bf16) (h5 : M5.IsWhole) (M6 : Memref sig .tc .vmem S128x256 .bf16) (h6 : M6.IsWhole)
    (M7 : Memref sig .tc .vmem S128x8192 .bf16) (h7 : M7.IsWhole) (M8 : Memref sig .tc .vmem S2x2x32x128 .f32) (h8 : M8.IsWhole)
    (M9 : Memref sig .tc .vmem S2x2x32x128 .f32) (h9 : M9.IsWhole) : Prog (TpuEff nD τ sig (Elt F) Λ₀ .tc) PUnit := do
  let ⟨v1922, v1930, v1932⟩ : Σ' (v1922 : FVec F S128x128 .bf16) (v1930 : IVec S128x128 32), IVec S128x128 32 ←
    k0_part43 i M1 h1 M2 h2 M3 h3 M4 h4 M5 h5 M6 h6 M7 h7 M8 h8 M9 h9
  let v1946 : Vec F S128x128 .bf16 ← Prog.lift (.load M7 (Rect.unit (s := S128x8192) ![0, 8064] S128x128.size inb_S128x8192_S128x128_0_8064).toLoadRect (View.loadsAt_vmem h_S128x128))
  Prog.lift (.store M7 (Rect.unit (s := S128x8192) ![0, 8064] S128x128.size inb_S128x8192_S128x128_0_8064) (k0_pay152 v1922 v1930 v1932) Finset.univ (View.stores_vmem h_S128x128 (h7.storeExact_slice rfl _ packedbf16_S128x8192_S128x128_0_8064) (fun _ => rfl)) (.inl rfl))
  pure ⟨⟩

variable (i i' : grid0.Coords)
    (M1 : Memref sig .tc .vmem S128x8192 .bf16) (h1 : M1.IsWhole) (M2 : Memref sig .tc .vmem S8192x128 .i8) (h2 : M2.IsWhole)
    (M3 : Memref sig .tc .vmem S64x256 .bf16) (h3 : M3.IsWhole) (M4 : Memref sig .tc .vmem S8192x128 .i8) (h4 : M4.IsWhole)
    (M5 : Memref sig .tc .vmem S64x256 .bf16) (h5 : M5.IsWhole) (M6 : Memref sig .tc .vmem S128x256 .bf16) (h6 : M6.IsWhole)
    (M7 : Memref sig .tc .vmem S128x8192 .bf16) (h7 : M7.IsWhole) (M8 : Memref sig .tc .vmem S2x2x32x128 .f32) (h8 : M8.IsWhole)
    (M9 : Memref sig .tc .vmem S2x2x32x128 .f32) (h9 : M9.IsWhole)

theorem part44_first (h : firstWord i = 1#1) (h' : ¬ firstWord i' = 1#1) :
    k0_part44 (F := F) i M1 h1 M2 h2 M3 h3 M4 h4 M5 h5 M6 h6 M7 h7 M8 h8 M9 h9
      = permuteX i M1 h1 M2 h2 M3 h3 M4 h4 M5 h5 M6 h6 M7 h7 M8 h8 M9 h9 >>= fun _ =>
        k0_part44 i' M1 h1 M2 h2 M3 h3 M4 h4 M5 h5 M6 h6 M7 h7 M8 h8 M9 h9 := by
  simp only [k0_part44_eq_skeleton]
  unfold k0_part44_skel permuteX
  simp only [dif_pos h, dif_neg h']
  simp only [bind_assoc, pure_bind]

theorem part44_later (h : ¬ firstWord i = 1#1) (h' : ¬ firstWord i' = 1#1) :
    k0_part44 (F := F) i M1 h1 M2 h2 M3 h3 M4 h4 M5 h5 M6 h6 M7 h7 M8 h8 M9 h9
      = k0_part44 i' M1 h1 M2 h2 M3 h3 M4 h4 M5 h5 M6 h6 M7 h7 M8 h8 M9 h9 := by
  simp only [k0_part44_eq_skeleton]
  unfold k0_part44_skel
  simp only [dif_neg h, dif_neg h']

/-- At the first point the body is the permutation, then what it is at a later point. -/
theorem body_first (h : firstWord i = 1#1) (h' : ¬ firstWord i' = 1#1) :
    cc0_int4_swiglu (F := F) i M1 h1 M2 h2 M3 h3 M4 h4 M5 h5 M6 h6 M7 h7 M8 h8 M9 h9
      = permuteX i M1 h1 M2 h2 M3 h3 M4 h4 M5 h5 M6 h6 M7 h7 M8 h8 M9 h9 >>= fun _ =>
        cc0_int4_swiglu i' M1 h1 M2 h2 M3 h3 M4 h4 M5 h5 M6 h6 M7 h7 M8 h8 M9 h9 := by
  unfold cc0_int4_swiglu k0_part433
  rw [part44_first i i' M1 h1 M2 h2 M3 h3 M4 h4 M5 h5 M6 h6 M7 h7 M8 h8 M9 h9 h h']
  simp only [bind_assoc]
  rfl

/-- At two later points the body is the same program. -/
theorem body_later (h : ¬ firstWord i = 1#1) (h' : ¬ firstWord i' = 1#1) :
    cc0_int4_swiglu (F := F) i M1 h1 M2 h2 M3 h3 M4 h4 M5 h5 M6 h6 M7 h7 M8 h8 M9 h9
      = cc0_int4_swiglu i' M1 h1 M2 h2 M3 h3 M4 h4 M5 h5 M6 h6 M7 h7 M8 h8 M9 h9 := by
  unfold cc0_int4_swiglu k0_part433
  rw [part44_later i i' M1 h1 M2 h2 M3 h3 M4 h4 M5 h5 M6 h6 M7 h7 M8 h8 M9 h9 h h']
  rfl

end Cert.Proof.Ideal

end
-- ==== Proof.Ideal.Run.lean ====
/-
  The body of the kernel read at the ideal floats run: what the permutation leaves in the scratch, and what the rest leaves in the output block.
-/
module

public import proofs.«01_k».proof.Proof.Ideal.First

@[expose] public section

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the buffer memref `M` is on, on core `c`, and that buffer held at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The permutation: what it leaves in the scratch, from the left operand, with the proof that it does. -/
noncomputable def permuteRun (c : Dev nD) (i : grid0.Coords)
    (M1 : Memref sig .tc .vmem S128x8192 .bf16) (h1 : M1.IsWhole) (M2 : Memref sig .tc .vmem S8192x128 .i8) (h2 : M2.IsWhole)
    (M3 : Memref sig .tc .vmem S64x256 .bf16) (h3 : M3.IsWhole) (M4 : Memref sig .tc .vmem S8192x128 .i8) (h4 : M4.IsWhole)
    (M5 : Memref sig .tc .vmem S64x256 .bf16) (h5 : M5.IsWhole) (M6 : Memref sig .tc .vmem S128x256 .bf16) (h6 : M6.IsWhole)
    (M7 : Memref sig .tc .vmem S128x8192 .bf16) (h7 : M7.IsWhole) (M8 : Memref sig .tc .vmem S2x2x32x128 .f32) (h8 : M8.IsWhole)
    (M9 : Memref sig .tc .vmem S2x2x32x128 .f32) (h9 : M9.IsWhole)
    (f1 : Bf (F := F) c M1) :
    { W : Bf (F := F) c M7 //
      ∀ (f7 : Bf (F := F) c M7) (E : Set ℕ) (Q : PUnit → sProp 𝕄),
        iprop(pt c M1 f1 ∗ pt c M7 f7 ∗ (iprop(pt c M1 f1 ∗ pt c M7 W) -∗ Q ⟨⟩))
        ⊢ wp frame (wpE (defs₀ (F := F)) Variants.none c none) E
            (permuteX i M1 h1 M2 h2 M3 h3 M4 h4 M5 h5 M6 h6 M7 h7 M8 h8 M9 h9) Q } := by
  refine ⟨?_, fun f7 E Q => ?run⟩
  case run =>
    iintro ⟨H1, H7, Hk⟩
    unfold permuteX
    sl_exec_parts!
    sl_step
    iapply Hk
    isplitl [H1]; · iexact H1
    iexact H7

/-- The body at a later point: what it leaves in the output block, from the blocks and the scratch holding the permuted left
    operand, with the proof that it does. -/
noncomputable def laterRun (c : Dev nD) (i : grid0.Coords) (hi : ¬ firstWord i = 1#1)
    (M1 : Memref sig .tc .vmem S128x8192 .bf16) (h1 : M1.IsWhole) (M2 : Memref sig .tc .vmem S8192x128 .i8) (h2 : M2.IsWhole)
    (M3 : Memref sig .tc .vmem S64x256 .bf16) (h3 : M3.IsWhole) (M4 : Memref sig .tc .vmem S8192x128 .i8) (h4 : M4.IsWhole)
    (M5 : Memref sig .tc .vmem S64x256 .bf16) (h5 : M5.IsWhole) (M6 : Memref sig .tc .vmem S128x256 .bf16) (h6 : M6.IsWhole)
    (M7 : Memref sig .tc .vmem S128x8192 .bf16) (h7 : M7.IsWhole) (M8 : Memref sig .tc .vmem S2x2x32x128 .f32) (h8 : M8.IsWhole)
    (M9 : Memref sig .tc .vmem S2x2x32x128 .f32) (h9 : M9.IsWhole)
    (f2 : Bf (F := F) c M2) (f3 : Bf (F := F) c M3) (f4 : Bf (F := F) c M4) (f5 : Bf (F := F) c M5) (f7 : Bf (F := F) c M7) :
    { W : Bf (F := F) c M6 //
      ∀ (f6 : Bf (F := F) c M6) (f8 : Bf (F := F) c M8) (f9 : Bf (F := F) c M9) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9
          ∗ (iprop(pt c M2 f2 ∗ pt c M3 f3 ∗ pt c M4 f4 ∗ pt c M5 f5 ∗ pt c M6 W ∗ pt c M7 f7 ∗ (∃ f, pt c M8 f) ∗ (∃ f, pt c M9 f)) -∗ Q ⟨⟩))
        ⊢ wp frame (wpE (defs₀ (F := F)) Variants.none c none) E
            (cc0_int4_swiglu i M1 h1 M2 h2 M3 h3 M4 h4 M5 h5 M6 h6 M7 h7 M8 h8 M9 h9) Q } := by
  refine ⟨?_, fun f6 f8 f9 E Q => ?run⟩
  case run =>
    iintro ⟨H2, H3, H4, H5, H6, H7, H8, H9, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

end Cert.Proof.Ideal

end
-- ==== Proof.Ideal.Frame.lean ====
/-
  The run and the frame of the kernel read at the ideal floats: the body's triple over what its blocks read, the pipeline's proof data (the scratch
  holds the permuted left operand from the first point on), the launch, the arguments unchanged, the counters at zero.
-/
module

public import proofs.«01_k».proof.Proof.Ideal.Run

@[expose] public section

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
    (M1 : Memref sig .tc .vmem S128x8192 .bf16) (h1 : M1.IsWhole) (M2 : Memref sig .tc .vmem S8192x128 .i8) (h2 : M2.IsWhole)
    (M3 : Memref sig .tc .vmem S64x256 .bf16) (h3 : M3.IsWhole) (M4 : Memref sig .tc .vmem S8192x128 .i8) (h4 : M4.IsWhole)
    (M5 : Memref sig .tc .vmem S64x256 .bf16) (h5 : M5.IsWhole) (M6 : Memref sig .tc .vmem S128x256 .bf16) (h6 : M6.IsWhole)
    (M7 : Memref sig .tc .vmem S128x8192 .bf16) (h7 : M7.IsWhole) (M8 : Memref sig .tc .vmem S2x2x32x128 .f32) (h8 : M8.IsWhole)
    (M9 : Memref sig .tc .vmem S2x2x32x128 .f32) (h9 : M9.IsWhole)

/-- What the scratch reads after the permutation of a left operand reading `x1`. -/
def permuted (x1 : Vec F S128x8192 .bf16) : Vec F S128x8192 .bf16 :=
  M7.view.read (Elt F) (permuteRun c i M1 h1 M2 h2 M3 h3 M4 h4 M5 h5 M6 h6 M7 h7 M8 h8 M9 h9 (h1.unread x1)).1

/-- What the output block reads after the body at a later point, from what the blocks and the scratch read. -/
def outBlock (x2 : Vec F S8192x128 .i8) (x3 : Vec F S64x256 .bf16) (x4 : Vec F S8192x128 .i8) (x5 : Vec F S64x256 .bf16)
    (x7 : Vec F S128x8192 .bf16) : Vec F S128x256 .bf16 :=
  M6.view.read (Elt F) (laterRun c iLater iLater_not_first M1 h1 M2 h2 M3 h3 M4 h4 M5 h5 M6 h6 M7 h7 M8 h8 M9 h9 (h2.unread x2) (h3.unread x3) (h4.unread x4) (h5.unread x5) (h7.unread x7)).1

theorem sound_permute (E : Set ℕ) (x1 : Vec F S128x8192 .bf16) (Q : PUnit → sProp 𝕄) :
    iprop(owns (c : Thread nD τ) M1 fullShare x1 ∗ (∃ d, owns (c : Thread nD τ) M7 fullShare d)
        ∗ (iprop(owns (c : Thread nD τ) M1 fullShare x1 ∗ owns (c : Thread nD τ) M7 fullShare (permuted c i M1 h1 M2 h2 M3 h3 M4 h4 M5 h5 M6 h6 M7 h7 M8 h8 M9 h9 x1)) -∗ Q ⟨⟩))
      ⊢ wp frame (wpE (defs₀ (F := F)) Variants.none c none) E (permuteX i M1 h1 M2 h2 M3 h3 M4 h4 M5 h5 M6 h6 M7 h7 M8 h8 M9 h9) Q := by
  unfold owns
  iintro ⟨⟨%f1, %hf1, H1⟩, ⟨%d7, %f7, -, H7⟩, Hk⟩
  obtain rfl := h1.eq_unread hf1
  iapply ((permuteRun c i M1 h1 M2 h2 M3 h3 M4 h4 M5 h5 M6 h6 M7 h7 M8 h8 M9 h9 (h1.unread x1)).2 f7 E Q)
  isplitl [H1]; · iexact H1
  isplitl [H7]; · iexact H7
  iintro ⟨H1, H7⟩
  iapply Hk
  isplitl [H1]
  · iexists _; isplitr
    · ipureintro; exact hf1
    iexact H1
  iexists _; isplitr
  swap; · iexact H7
  ipureintro; rfl

theorem sound_later (E : Set ℕ) (x2 : Vec F S8192x128 .i8) (x3 : Vec F S64x256 .bf16) (x4 : Vec F S8192x128 .i8) (x5 : Vec F S64x256 .bf16)
    (x7 : Vec F S128x8192 .bf16) (Q : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5
        ∗ (∃ d, owns (c : Thread nD τ) M6 fullShare d) ∗ owns (c : Thread nD τ) M7 fullShare x7 ∗ (∃ d, owns (c : Thread nD τ) M8 fullShare d) ∗ (∃ d, owns (c : Thread nD τ) M9 fullShare d)
        ∗ (iprop(owns (c : Thread nD τ) M2 fullShare x2 ∗ owns (c : Thread nD τ) M3 fullShare x3 ∗ owns (c : Thread nD τ) M4 fullShare x4 ∗ owns (c : Thread nD τ) M5 fullShare x5
            ∗ owns (c : Thread nD τ) M6 fullShare (outBlock c M1 h1 M2 h2 M3 h3 M4 h4 M5 h5 M6 h6 M7 h7 M8 h8 M9 h9 x2 x3 x4 x5 x7) ∗ owns (c : Thread nD τ) M7 fullShare x7
            ∗ (∃ d, owns (c : Thread nD τ) M8 fullShare d) ∗ (∃ d, owns (c : Thread nD τ) M9 fullShare d)) -∗ Q ⟨⟩))
      ⊢ wp frame (wpE (defs₀ (F := F)) Variants.none c none) E (cc0_int4_swiglu iLater M1 h1 M2 h2 M3 h3 M4 h4 M5 h5 M6 h6 M7 h7 M8 h8 M9 h9) Q := by
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  obtain rfl := h2.eq_unread hf2
  obtain rfl := h3.eq_unread hf3
  obtain rfl := h4.eq_unread hf4
  obtain rfl := h5.eq_unread hf5
  obtain rfl := h7.eq_unread hf7
  iapply ((laterRun c iLater iLater_not_first M1 h1 M2 h2 M3 h3 M4 h4 M5 h5 M6 h6 M7 h7 M8 h8 M9 h9 (h2.unread x2) (h3.unread x3) (h4.unread x4) (h5.unread x5) (h7.unread x7)).2 f6 f8 f9 E Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, ⟨%g8, H8⟩, ⟨%g9, H9⟩⟩
  iapply Hk
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    swap; · iexact H6
    ipureintro; rfl
  isplitl [H7]
  · iexists _; isplitr
    · ipureintro; exact hf7
    iexact H7
  isplitl [H8]
  · iexists _; iexists g8; isplitr
    · ipureintro; rfl
    iexact H8
  iexists _; iexists g9; isplitr
  · ipureintro; rfl
  iexact H9

end Body

variable (m : (ℓ : Loc nD τ sig) → Buf (Elt F) ℓ) (ρ : Dev nD → PrngReg)

/-! ## The pipeline's proof data -/

/-- What the scratch reads from the first point on: the permuted left operand, as the body at the first point leaves it. -/
def scratchX (c : Dev nD) : Vec F S128x8192 .bf16 :=
  (fun t : Fin cfg0.N => permuted c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (iblk m c 0 t)) t0_0

/-- What the body leaves in the output window's buffer at point `t`. -/
def outAt (c : Dev nD) (t : Fin cfg0.N) : Vec F S128x256 .bf16 :=
  outBlock c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (iblk m c 1 t) (iblk m c 2 t) (iblk m c 3 t) (iblk m c 4 t) (scratchX m c)

/-- Between points: before the first, the scratch at anything; then the permuted left operand in its buffer. -/
def Φs (c : Dev nD) (k : Fin (cfg0.N + 1)) : sProp 𝕄 :=
  if k.val = 0 then Pipeline.ΦA spec0 c
  else iprop(owns (c : Thread nD τ) (Memref.whole cc0_scratch0) fullShare (scratchX m c)
    ∗ (∃ d, owns (c : Thread nD τ) (Memref.whole cc0_scratch1) fullShare d) ∗ (∃ d, owns (c : Thread nD τ) (Memref.whole cc0_scratch2) fullShare d)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ k := Φs m c k
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The class's invariant opened: the three scratch buffers at anything and the generator register. -/
theorem ΦA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)) ∗ ∃ r, prngReg c r) := by
  unfold Pipeline.ΦA
  rw [scopedRest0_eq]
  have h : ∀ b : Ref sig .tc, (iprop(∃ d, owns (c : Thread nD τ) (Memref.whole b) fullShare d) : sProp 𝕄)
      = iprop(∃ f : Buf (Elt F) ((c : Thread nD τ).loc b), ((c : Thread nD τ).loc b) ↦{fullShare} f) := by
    intro b
    have h₁ : (iprop(∃ d, owns (c : Thread nD τ) (Memref.whole b) fullShare d) : sProp 𝕄)
        ⊢ iprop(∃ f : Buf (Elt F) ((c : Thread nD τ).loc b), ((c : Thread nD τ).loc b) ↦{fullShare} f) := by
      simp only [owns_whole_eq]
      iintro ⟨%d, %f, -, H⟩; iexists f; iexact H
    have h₂ : (iprop(∃ f : Buf (Elt F) ((c : Thread nD τ).loc b), ((c : Thread nD τ).loc b) ↦{fullShare} f) : sProp 𝕄)
        ⊢ iprop(∃ d, owns (c : Thread nD τ) (Memref.whole b) fullShare d) := by
      simp only [owns_whole_eq]
      iintro ⟨%f, H⟩; iexists f; iexists f; isplitr
      · ipureintro; rfl
      iexact H
    exact BI.Entails.antisymm h₁ h₂
  rw [h, h, h]

/-- What the body is given of the invariant after the first point. -/
theorem Φs_pos (c : Dev nD) (k : Fin (cfg0.N + 1)) (hk : ¬ k.val = 0) : Φs m c k
    = iprop(owns (c : Thread nD τ) (Memref.whole cc0_scratch0) fullShare (scratchX m c)
    ∗ (∃ d, owns (c : Thread nD τ) (Memref.whole cc0_scratch1) fullShare d) ∗ (∃ d, owns (c : Thread nD τ) (Memref.whole cc0_scratch2) fullShare d)
    ∗ ∃ r, prngReg c r) := by
  unfold Φs; rw [if_neg hk]

/-- The body at a later point: the scratch is found, and left, at the permuted left operand. -/
theorem sound_at (c : Dev nD) (t : Fin cfg0.N) (x0 : Vec F S128x8192 .bf16) :
    iprop(Φs m c t.succ ∗ (dats m 0 c).owesAt () t.castSucc
        ∗ owns (c : Thread nD τ) (st0_0 t) fullShare x0
        ∗ owns (c : Thread nD τ) (st0_1 t) fullShare (iblk m c 1 t) ∗ owns (c : Thread nD τ) (st0_2 t) fullShare (iblk m c 2 t)
        ∗ owns (c : Thread nD τ) (st0_3 t) fullShare (iblk m c 3 t) ∗ owns (c : Thread nD τ) (st0_4 t) fullShare (iblk m c 4 t)
        ∗ (∃ d, owns (c : Thread nD τ) (st0_5 t) fullShare d))
      ⊢ wp frame (wpE (defs₀ (F := F)) Variants.none c none) Set.univ
          (cc0_int4_swiglu iLater (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _))
          (fun _ => iprop(Φs m c t.succ ∗ (dats m 0 c).owesAt () t.castSucc
        ∗ owns (c : Thread nD τ) (st0_0 t) fullShare x0
        ∗ owns (c : Thread nD τ) (st0_1 t) fullShare (iblk m c 1 t) ∗ owns (c : Thread nD τ) (st0_2 t) fullShare (iblk m c 2 t)
        ∗ owns (c : Thread nD τ) (st0_3 t) fullShare (iblk m c 3 t) ∗ owns (c : Thread nD τ) (st0_4 t) fullShare (iblk m c 4 t)
        ∗ owns (c : Thread nD τ) (st0_5 t) fullShare (outAt m c t))) := by
  rw [Φs_pos m c t.succ (by simp)]
  iintro ⟨⟨Hx, H8, H9, Hg⟩, Ho, H1, H2, H3, H4, H5, H6⟩
  iapply (sound_later c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) Set.univ (iblk m c 1 t) (iblk m c 2 t) (iblk m c 3 t) (iblk m c 4 t) (scratchX m c) _)
  isplitl [H2]; · iexact H2
  isplitl [H3]; · iexact H3
  isplitl [H4]; · iexact H4
  isplitl [H5]; · iexact H5
  isplitl [H6]; · iexact H6
  isplitl [Hx]; · iexact Hx
  isplitl [H8]; · iexact H8
  isplitl [H9]; · iexact H9
  iintro ⟨H2, H3, H4, H5, H6, Hx, H8, H9⟩
  isplitl [Hx H8 H9 Hg]
  · isplitl [Hx]; · iexact Hx
    isplitl [H8]; · iexact H8
    isplitl [H9]; · iexact H9
    iexact Hg
  isplitl [Ho]; · iexact Ho
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Φs m c t.succ from rfl, show (dats m 0 c).Φ t.castSucc = Φs m c t.castSucc from rfl,
    show (dats m 0 c).owesAt () t.succ = (dats m 0 c).owesAt () t.castSucc from rfl,
    after0_0, after0_1, after0_2, after0_3, after0_4, after0_5]
  by_cases ht : t.val = 0
  · obtain rfl : t = t0_0 := Fin.ext ht
    rw [body_first (F := F) (grid0.coords t0_0) iLater _ _ _ _ _ _ _ _ _ _ _ _ _ _ _ _ _ _ ((firstWord_iff _).2 rfl) iLater_not_first, wp_bind,
      show Φs m c t0_0.castSucc = Pipeline.ΦA spec0 c from if_pos rfl, ΦA_eq]
    iintro ⟨⟨⟨Hx, H8, H9⟩, Hg⟩, Ho, ⟨%d0, H1⟩, ⟨%d1, H2⟩, ⟨%d2, H3⟩, ⟨%d3, H4⟩, ⟨%d4, H5⟩, ⟨%d5, H6⟩⟩
    iapply (sound_permute c (grid0.coords t0_0) _ _ _ _ _ _ _ _ _ _ _ _ _ _ _ _ _ _ Set.univ (iblk m c 0 t0_0) _)
    isplitl [H1]; · iexact H1
    isplitl [Hx]; · iexact Hx
    iintro ⟨H1, Hx⟩
    iapply (sound_at m c t0_0 (iblk m c 0 t0_0))
    rw [Φs_pos m c t0_0.succ (by simp)]
    isplitl [Hx H8 H9 Hg]
    · isplitl [Hx]; · iexact Hx
      isplitl [H8]; · iexact H8
      isplitl [H9]; · iexact H9
      iexact Hg
    isplitl [Ho]; · iexact Ho
    isplitl [H1]; · iexact H1
    isplitl [H2]; · iexact H2
    isplitl [H3]; · iexact H3
    isplitl [H4]; · iexact H4
    isplitl [H5]; · iexact H5
    iexists _; iexact H6
  · rw [body_later (F := F) (grid0.coords t) iLater _ _ _ _ _ _ _ _ _ _ _ _ _ _ _ _ _ _ (fun h => ht ((firstWord_iff t).1 h)) iLater_not_first,
      show Φs m c t.castSucc = Φs m c t.succ from (Φs_pos m c t.castSucc ht).trans (Φs_pos m c t.succ (by simp)).symm]
    iintro ⟨Hx, Ho, ⟨%d0, H1⟩, ⟨%d1, H2⟩, ⟨%d2, H3⟩, ⟨%d3, H4⟩, ⟨%d4, H5⟩, ⟨%d5, H6⟩⟩
    iapply (sound_at m c t (iblk m c 0 t))
    isplitl [Hx]; · iexact Hx
    isplitl [Ho]; · iexact Ho
    isplitl [H1]; · iexact H1
    isplitl [H2]; · iexact H2
    isplitl [H3]; · iexact H3
    isplitl [H4]; · iexact H4
    isplitl [H5]; · iexact H5
    iexists _; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = Φs m c 0 from rfl, show Φs m c 0 = Pipeline.ΦA spec0 c from if_pos rfl])
    (hout := fun c => by
      rw [show (dats m 0 c).Φ (Fin.last _) = Φs m c (Fin.last _) from rfl, Φs_pos m c (Fin.last _) (by decide)]
      rw [ΦA_eq]
      iintro ⟨Hx, H8, H9, Hg⟩
      isplitr [Hg]
      · isplitl [Hx]; · iexists _; iexact Hx
        isplitl [H8]; · iexact H8
        iexact H9
      iexact Hg)

/-- Every weakly fair execution of @main terminates, and every final state has the pipeline's arrays at what the library computes
    from the proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim's statement at any `F`: the arguments end unchanged, every semaphore counter at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.Ideal

end
-- ==== Proof.Value.Ops.lean ====
/-
  The kernel's arithmetic named once: the lane permutation of a chunk of the left operand, the scales rearranged, a 64-row block of
  dequantised weights, a 256x256 weight tile, one step of the two matrix units, the gate and the interleaving of the columns.
-/
module

public import proofs.«01_k».proof.Proof.Gen.KernelIdeal.Frame

@[expose] public section

noncomputable section

namespace Cert.Proof.Value

open Cert.KernelIdeal Cert.KernelIdeal.Gen
open Idealize.ShloMosaic Idealize.ShloMosaic.TcCoe

variable {F : FTy → Type} [FloatOps F]

/-- A gather index made non-negative (128 is added below zero), as a 128-row chunk. -/
def wrap128 (idx : IVec S128x128 32) : IVec S128x128 32 :=
  shapeCast S128x128 (shapeCast S128x128x1
    (select (cmpi .slt idx (broadcast S128x128 0#32)) (addi idx (broadcast S128x128 128#32)) idx)
    shapeCasts_S128x128_S128x128x1) shapeCasts_S128x128x1_S128x128

/-- A gather index made non-negative, as a 64-row chunk. -/
def wrap64 (idx : IVec S64x128 32) : IVec S64x128 32 :=
  shapeCast S64x128 (shapeCast S64x128x1
    (select (cmpi .slt idx (broadcast S64x128 0#32)) (addi idx (broadcast S64x128 128#32)) idx)
    shapeCasts_S64x128_S64x128x1) shapeCasts_S64x128x1_S64x128

def lane128 : IVec S128x128 32 := iota .tc S128x128 32 [1] iota_S128x128_d1_w32
def lane64 : IVec S64x128 32 := iota .tc S64x128 32 [1] iota_S64x128_d1_w32

/-- Where lane `l` of a permuted chunk of the left operand comes from. -/
def permIdx : IVec S128x128 32 :=
  ori (ori (andi lane128 (broadcast S128x128 64#32)) (muli (andi lane128 (broadcast S128x128 1#32)) (broadcast S128x128 32#32)))
    (shrsi (andi lane128 (broadcast S128x128 63#32)) (broadcast S128x128 1#32))

/-- One 128-lane chunk of the left operand, permuted. -/
def permuteChunk (x : FVec F S128x128 .bf16) : FVec F S128x128 .bf16 :=
  shapeCast S128x128 (truncf .bf16
    (dynamicGather 1 (extf .f32 (shapeCast S128x128 x shapeCasts_S128x128_S128x128) bitsLt_bf16_f32) (wrap128 permIdx))
    bitsLt_bf16_f32) shapeCasts_S128x128_S128x128

/-- Every second column of the scales, from column `p`, two rows of the groups side by side. -/
def scaleCols (p : BitVec 32) (s : FVec F S64x256 .bf16) : FVec F S32x2x128 .f32 :=
  let idx := addi (shli (andi lane64 (broadcast S64x128 63#32)) (broadcast S64x128 1#32)) (broadcast S64x128 p)
  let w := extf .f32 s bitsLt_bf16_f32
  shapeCast S32x2x128 (select (cmpi .slt lane64 (broadcast S64x128 64#32))
      (dynamicGather 1 (extractStridedSlice S64x128 ![0, 0] w slices_S64x256_o0_0_S64x128) (wrap64 idx))
      (dynamicGather 1 (extractStridedSlice S64x128 ![0, 128] w slices_S64x256_o0_128_S64x128) (wrap64 idx)))
    shapeCasts_S64x128_S32x2x128

/-- The even groups of the scales' columns of one parity. -/
def scaleEven (p : BitVec 32) (s : FVec F S64x256 .bf16) : FVec F S1x1x32x128 .f32 :=
  shapeCast S1x1x32x128 (shapeCast S32x128
    (extractStridedSlice S32x1x128 ![0, 0, 0] (scaleCols p s) slices_S32x2x128_o0_0_0_S32x1x128) shapeCasts_S32x1x128_S32x128)
    shapeCasts_S32x128_S1x1x32x128

/-- The odd groups of the scales' columns of one parity. -/
def scaleOdd (p : BitVec 32) (s : FVec F S64x256 .bf16) : FVec F S1x1x32x128 .f32 :=
  shapeCast S1x1x32x128 (shapeCast S32x128
    (extractStridedSlice S32x1x128 ![0, 1, 0] (scaleCols p s) slices_S32x2x128_o0_1_0_S32x1x128) shapeCasts_S32x1x128_S32x128)
    shapeCasts_S32x128_S1x1x32x128

/-- What the preparation leaves in a scale scratch, newest first. -/
def scalePieces (s : FVec F S64x256 .bf16) : List (View.Piece (Elt F) S2x2x32x128 .f32) :=
  [⟨Rect.unit ![1, 1, 0, 0] S1x1x32x128.size inb_S2x2x32x128_S1x1x32x128_1_1_0_0, scaleOdd 1#32 s⟩,
   ⟨Rect.unit ![1, 0, 0, 0] S1x1x32x128.size inb_S2x2x32x128_S1x1x32x128_1_0_0_0, scaleEven 1#32 s⟩,
   ⟨Rect.unit ![0, 1, 0, 0] S1x1x32x128.size inb_S2x2x32x128_S1x1x32x128_0_1_0_0, scaleOdd 0#32 s⟩,
   ⟨Rect.unit ![0, 0, 0, 0] S1x1x32x128.size inb_S2x2x32x128_S1x1x32x128_0_0_0_0, scaleEven 0#32 s⟩]

theorem scaleBox_inb (p b t : Nat) (hp : p < 2) (hb : b < 2) (ht : t < 32) :
    ∀ a, S1x1x16x128.size a = 0 ∨
      (![p, b, t, 0] : Fin 4 → Nat) a + (![1, 1, 0, 1] : Fin 4 → Nat) a * (S1x1x16x128.size a - 1) < S2x2x32x128.size a := by
  refine Fin.forall_fin_succ.2 ⟨?_, Fin.forall_fin_succ.2 ⟨?_, Fin.forall_fin_succ.2 ⟨?_, Fin.forall_fin_succ.2 ⟨?_, fun a => a.elim0⟩⟩⟩⟩ <;>
    right <;> simp [S1x1x16x128, S2x2x32x128] <;> omega

/-- One row of a scale scratch, read sixteen times over. -/
def scaleBox (p b t : Nat) (hp : p < 2) (hb : b < 2) (ht : t < 32) : LoadRect S2x2x32x128 :=
  ⟨![p, b, t, 0], S1x1x16x128.size, ![1, 1, 0, 1], scaleBox_inb p b t hp hb ht⟩

/-- The packed rows of two 32-row runs with their low nibbles together, each nibble's top bit flipped. -/
def lowWord (a b : IVec S8x128 32) : IVec S8x128 32 :=
  let swap := andi (xori (shrui a (broadcast S8x128 4#32)) b) (broadcast S8x128 252645135#32)
  xori (xori a (shli swap (broadcast S8x128 4#32))) (broadcast S8x128 2290649224#32)

/-- The same with the high nibbles together. -/
def highWord (a b : IVec S8x128 32) : IVec S8x128 32 :=
  let swap := andi (xori (shrui a (broadcast S8x128 4#32)) b) (broadcast S8x128 252645135#32)
  xori (xori b swap) (broadcast S8x128 2290649224#32)

/-- The eight signed nibbles of every word, one row each. -/
def nibbles (w : IVec S8x128 32) : IVec S64x128 32 :=
  shapeCast S64x128 (shrsi (shli
      (broadcastTo S8x8x128 (shapeCast S8x1x128 w shapeCasts_S8x128_S8x1x128) broadcasts_S8x1x128_S8x8x128)
      (subi (broadcast S8x8x128 28#32) (muli (broadcast S8x8x128 4#32) (iota .tc S8x8x128 32 [1] iota_S8x8x128_d1_w32))))
    (broadcast S8x8x128 28#32)) shapeCasts_S8x8x128_S64x128

/-- Sixty-four rows scaled by one row of scales, sixteen rows at a time. -/
def scaleRows (q : FVec F S64x128 .bf16) (ld : FVec F S1x1x16x128 .f32) : FVec F S64x128 .bf16 :=
  let s := truncf .bf16 (shapeCast S16x128 ld shapeCasts_S1x1x16x128_S16x128) bitsLt_bf16_f32
  concatenate S64x128 0
    [⟨S16x128, mulf (extractStridedSlice S16x128 ![0, 0] q slices_S64x128_o0_0_S16x128) s⟩,
     ⟨S16x128, mulf (extractStridedSlice S16x128 ![16, 0] q slices_S64x128_o16_0_S16x128) s⟩,
     ⟨S16x128, mulf (extractStridedSlice S16x128 ![32, 0] q slices_S64x128_o32_0_S16x128) s⟩,
     ⟨S16x128, mulf (extractStridedSlice S16x128 ![48, 0] q slices_S64x128_o48_0_S16x128) s⟩]
    concatenates_S16x128_S16x128_S16x128_S16x128_S64x128_d0

/-- Sixty-four dequantised rows from two runs of 32 packed rows. -/
def weightBlock (top bot : Vec F S32x128 .i8) (s0 s1 : FVec F S1x1x16x128 .f32) : FVec F S64x256 .bf16 :=
  let a : IVec S8x128 32 := bitcast S8x128 32 top bitcasts_S32x128_w8_S8x128_w32
  let b : IVec S8x128 32 := bitcast S8x128 32 bot bitcasts_S32x128_w8_S8x128_w32
  concatenate S64x256 1
    [⟨S64x128, scaleRows (sitofp .bf16 (nibbles (lowWord a b))) s0⟩,
     ⟨S64x128, scaleRows (sitofp .bf16 (nibbles (highWord a b))) s1⟩]
    concatenates_S64x128_S64x128_S64x256_d1

/-- Four such blocks: a weight tile, from its eight runs of packed rows and the scales of its two groups. -/
def weightTile (w : Fin 8 → Vec F S32x128 .i8) (s : Fin 2 → Fin 2 → FVec F S1x1x16x128 .f32) : FVec F S256x256 .bf16 :=
  concatenate S256x256 0
    [⟨S64x256, weightBlock (w 0) (w 1) (s 0 0) (s 1 0)⟩, ⟨S64x256, weightBlock (w 2) (w 3) (s 0 0) (s 1 0)⟩,
     ⟨S64x256, weightBlock (w 4) (w 5) (s 0 1) (s 1 1)⟩, ⟨S64x256, weightBlock (w 6) (w 7) (s 0 1) (s 1 1)⟩]
    concatenates_S64x256_S64x256_S64x256_S64x256_S256x256_d0

theorem rows_inb (o : Nat) (h : o + 32 ≤ 8192) :
    ∀ a, (![o, 0] : Fin 2 → Nat) a + S32x128.size a ≤ S8192x128.size a := by
  refine Fin.forall_fin_succ.2 ⟨?_, Fin.forall_fin_succ.2 ⟨?_, fun a => a.elim0⟩⟩ <;> simp [S32x128, S8192x128] <;> omega

theorem cols_inb (o : Nat) (h : o + 256 ≤ 8192) :
    ∀ a, (![0, o] : Fin 2 → Nat) a + S128x256.size a ≤ S128x8192.size a := by
  refine Fin.forall_fin_succ.2 ⟨?_, Fin.forall_fin_succ.2 ⟨?_, fun a => a.elim0⟩⟩ <;> simp [S128x256, S128x8192] <;> omega

theorem chunk_inb (o : Nat) (h : o + 128 ≤ 8192) :
    ∀ a, (![0, o] : Fin 2 → Nat) a + S128x128.size a ≤ S128x8192.size a := by
  refine Fin.forall_fin_succ.2 ⟨?_, Fin.forall_fin_succ.2 ⟨?_, fun a => a.elim0⟩⟩ <;> simp [S128x128, S128x8192] <;> omega

/-- Thirty-two packed rows from row `o`. -/
abbrev rowsBox (o : Nat) (h : o + 32 ≤ 8192) : Rect S8192x128 := Rect.unit ![o, 0] S32x128.size (rows_inb o h)

/-- Two hundred and fifty-six columns of the left operand from column `o`. -/
abbrev colsBox (o : Nat) (h : o + 256 ≤ 8192) : Rect S128x8192 := Rect.unit ![0, o] S128x256.size (cols_inb o h)

/-- One 128-column chunk of the left operand from column `o`. -/
abbrev chunkBox (o : Nat) (h : o + 128 ≤ 8192) : Rect S128x8192 := Rect.unit ![0, o] S128x128.size (chunk_inb o h)

/-- One step: both tiles pushed, the left operand's columns passed through both units. -/
def mxuStep (s : Mxu F) (r : Fin 2) (wg wu : FVec F S256x256 .bf16) (x : FVec F S128x256 .bf16) : Mxu F :=
  (((s.pushed 0 r false wg).pushed 1 r false wu).accLhs 0 r 0 x fits_0_128).accLhs 1 r 0 x fits_0_128

/-- The units after the first `n` steps, tile `t` in register `t % 2`. -/
def mxuAfter (wg wu : Fin 32 → FVec F S256x256 .bf16) (x : Fin 32 → FVec F S128x256 .bf16) : (n : Nat) → n ≤ 32 → Mxu F
  | 0, _ => Mxu.init
  | n + 1, h => mxuStep (mxuAfter wg wu x n (Nat.le_of_succ_le h)) ⟨n % 2, Nat.mod_lt _ (by decide)⟩ (wg ⟨n, h⟩) (wu ⟨n, h⟩) (x ⟨n, h⟩)

/-- The gated product of the two results. -/
def gated (g u : FVec F S128x256 .f32) : FVec F S128x256 .f32 :=
  extf .f32 (truncf .bf16 (mulf (mulf g (logistic g)) u) bitsLt_bf16_f32) bitsLt_bf16_f32

/-- Lane `l` of one half of the interleaved columns: half of lane `l`, from `o`; even lanes from `e`, odd lanes from `d`. -/
def zipHalf (o : BitVec 32) (e d : FVec F S128x128 .f32) : FVec F S128x128 .f32 :=
  let idx := addi (shrsi lane128 (broadcast S128x128 1#32)) (broadcast S128x128 o)
  select (cmpi .eq (andi lane128 (broadcast S128x128 1#32)) (broadcast S128x128 0#32))
    (dynamicGather 1 e (wrap128 idx)) (dynamicGather 1 d (wrap128 idx))

/-- The two halves of the columns interleaved. -/
def interleave (h : FVec F S128x256 .f32) : FVec F S128x256 .bf16 :=
  let e := extractStridedSlice S128x128 ![0, 0] h slices_S128x256_o0_0_S128x128
  let d := extractStridedSlice S128x128 ![0, 128] h slices_S128x256_o0_128_S128x128
  truncf .bf16 (concatenate S128x256 1 [⟨S128x128, zipHalf 0#32 e d⟩, ⟨S128x128, zipHalf 64#32 e d⟩]
    concatenates_S128x128_S128x128_S128x256_d1) bitsLt_bf16_f32

end Cert.Proof.Value

end
-- ==== Proof.Value.Codes.lean ====
/-
  The four-bit codes: what the body reads out of two runs of packed rows is the low or high nibble of a byte, less 8.
-/
module

public import proofs.«01_k».proof.Proof.Value.Ops
public import Idealize.ShloMosaic.Lib.Pipeline.ValueKit
public import Idealize.ShloMosaic.Lib.Pointwise
public import Idealize.ShloMosaic.Lib.BitcastFour

@[expose] public section

noncomputable section

namespace Cert.Proof.Value

open Cert.KernelIdeal Cert.KernelIdeal.Gen
open Idealize.ShloMosaic Idealize.ShloMosaic.TcCoe

/-- A word shifted up until nibble `j` is at the top and down again is that nibble, its sign extended. -/
theorem nibble_word (W : BitVec 32) (j : Nat) (hj : j < 8) :
    IntOp.shrsi .vector (IntOp.shli .vector W (28#32 - 4#32 * BitVec.ofNat 32 j)) 28#32 = (W.extractLsb' (4 * j) 4).signExtend 32 := by
  interval_cases j <;>
  · simp only [IntOp.shrsi, IntOp.shli]
    rw [if_pos (by decide), if_pos (by decide)]
    apply BitVec.eq_of_getLsbD_eq
    intro q hq
    simp [BitVec.getLsbD_sshiftRight, BitVec.getLsbD_signExtend, BitVec.getLsbD_shiftLeft, BitVec.msb_eq_getLsbD_last]
    interval_cases q <;> simp

/-- Row `i` of the unpacked nibbles is nibble `i % 8` of word row `i / 8`, its sign extended. -/
theorem nibbles_apply (w : IVec S8x128 32) (i : Fin 64) (l : Fin 128) :
    nibbles w (ix2 i l) = ((w (ix2 ⟨i.val / 8, by omega⟩ l)).extractLsb' (4 * (i.val % 8)) 4).signExtend 32 := by
  rw [← nibble_word _ _ (Nat.mod_lt _ (by decide))]
  unfold nibbles
  pointwise
  rfl

theorem xor_cancel : ∀ x y : Bool, (y ^^ (x ^^ y)) = x := by decide

/-- Bit `4 * j + i` of the word of low nibbles. -/
theorem lowWord_bit (a b : IVec S8x128 32) (r : Fin 8) (l : Fin 128) (j : Nat) (hj : j < 8) (i : Nat) (hi : i < 4) :
    (lowWord a b (ix2 r l)).getLsbD (4 * j + i)
      = ((if j % 2 = 0 then a (ix2 r l) else b (ix2 r l)).getLsbD (8 * (j / 2) + i) ^^ decide (i = 3)) := by
  unfold lowWord
  pointwise
  generalize a (ix2 r l) = A
  generalize b (ix2 r l) = B
  interval_cases j <;> interval_cases i <;> simp [IntOp.shli, IntOp.shrui, IntOp.xori, IntOp.andi]

/-- Bit `4 * j + i` of the word of high nibbles. -/
theorem highWord_bit (a b : IVec S8x128 32) (r : Fin 8) (l : Fin 128) (j : Nat) (hj : j < 8) (i : Nat) (hi : i < 4) :
    (highWord a b (ix2 r l)).getLsbD (4 * j + i)
      = ((if j % 2 = 0 then a (ix2 r l) else b (ix2 r l)).getLsbD (8 * (j / 2) + (4 + i)) ^^ decide (i = 3)) := by
  unfold highWord
  pointwise
  generalize a (ix2 r l) = A
  generalize b (ix2 r l) = B
  interval_cases j <;> interval_cases i <;> simp [IntOp.shli, IntOp.shrui, IntOp.xori, IntOp.andi, xor_cancel]

/-- Four bits with the top one flipped, their sign extended, are the four bits less 8. -/
theorem flip_toInt : ∀ n : BitVec 4, ((n ^^^ 8#4).signExtend 32).toInt = (n.toNat : ℤ) - 8 := by decide

/-- The bits of an extracted nibble. -/
theorem flip_of_bits {n : Nat} (W : BitVec 32) (p : Nat) (B : BitVec n) (h : Nat)
    (hb : ∀ i < 4, W.getLsbD (p + i) = (B.getLsbD (h + i) ^^ decide (i = 3))) :
    W.extractLsb' p 4 = B.extractLsb' h 4 ^^^ 8#4 := by
  apply BitVec.eq_of_getLsbD_eq
  intro i hi
  rw [BitVec.getLsbD_extractLsb', hb i hi, BitVec.getLsbD_xor, BitVec.getLsbD_extractLsb']
  interval_cases i <;> simp

/-- The code in four bits of a byte, from bit `h`: the bits' number less 8. -/
def code (h : Nat) (b : BitVec 8) : ℤ := ((b.extractLsb' h 4).toNat : ℤ) - 8

/-- Row `i` of a 64-row block is a byte of the upper run of packed rows if `i` is even, of the lower run if odd. -/
def blockByte (top bot : S32x128.Idx → BitVec 8) (i : Fin 64) (l : Fin 128) : BitVec 8 :=
  if i.val % 2 = 0 then top (ix2 ⟨i.val / 2, by omega⟩ l) else bot (ix2 ⟨i.val / 2, by omega⟩ l)

/-- A bit of a word of four packed rows is a bit of one of them. -/
theorem word_bit (x : S32x128.Idx → BitVec 8) (r : Fin 8) (l : Fin 128) (p : Fin 32) (k i : Nat) (hi : i < 8) (hk : k < 4)
    (hp : p.val = 4 * r.val + k) :
    (bitcast S8x128 32 x bitcasts_S32x128_w8_S8x128_w32 (ix2 r l)).getLsbD (8 * k + i) = (x (ix2 p l)).getLsbD i := by
  have h := bitcast_8_32_getLsbD_ix2 x bitcasts_S32x128_w8_S8x128_w32 r l (8 * k + i) (by omega) p (by omega)
  rw [show (8 * k + i) % 8 = i by omega] at h
  exact h

section

variable (top bot : S32x128.Idx → BitVec 8) (i : Fin 64) (l : Fin 128)

theorem pick_bit (e : Nat) (he : e < 8) :
    (if i.val % 8 % 2 = 0 then bitcast S8x128 32 top bitcasts_S32x128_w8_S8x128_w32 (ix2 ⟨i.val / 8, by omega⟩ l)
        else bitcast S8x128 32 bot bitcasts_S32x128_w8_S8x128_w32 (ix2 ⟨i.val / 8, by omega⟩ l)).getLsbD (8 * (i.val % 8 / 2) + e)
      = (blockByte top bot i l).getLsbD e := by
  have h2 : i.val % 8 % 2 = i.val % 2 := by omega
  unfold blockByte
  rw [h2]
  split
  · exact word_bit top _ l ⟨i.val / 2, by omega⟩ _ e he (by omega) (by simp only; omega)
  · exact word_bit bot _ l ⟨i.val / 2, by omega⟩ _ e he (by omega) (by simp only; omega)

theorem low_code :
    (nibbles (lowWord (bitcast S8x128 32 top bitcasts_S32x128_w8_S8x128_w32) (bitcast S8x128 32 bot bitcasts_S32x128_w8_S8x128_w32))
      (ix2 i l)).toInt = code 0 (blockByte top bot i l) := by
  rw [nibbles_apply, flip_of_bits _ _ (blockByte top bot i l) 0 fun e he => ?_, flip_toInt]
  · rfl
  · rw [lowWord_bit _ _ _ _ _ (Nat.mod_lt _ (by decide)) _ he, pick_bit _ _ _ _ _ (by omega), Nat.zero_add]

theorem high_code :
    (nibbles (highWord (bitcast S8x128 32 top bitcasts_S32x128_w8_S8x128_w32) (bitcast S8x128 32 bot bitcasts_S32x128_w8_S8x128_w32))
      (ix2 i l)).toInt = code 4 (blockByte top bot i l) := by
  rw [nibbles_apply, flip_of_bits _ _ (blockByte top bot i l) 4 fun e he => ?_, flip_toInt]
  · rfl
  · rw [highWord_bit _ _ _ _ _ (Nat.mod_lt _ (by decide)) _ he, pick_bit _ _ _ _ _ (by omega)]

end

end Cert.Proof.Value

end
-- ==== Proof.Value.Scales.lean ====
/-
  The prepared scales: row `t` of plane `(p, b)` of a scale scratch holds, at lane `l`, the scale of group `2 t + b` and column `2 l + p`.
-/
module

public import proofs.«01_k».proof.Proof.Value.Ops
public import Idealize.ShloMosaic.Lib.Pipeline.ValueKit
public import Idealize.ShloMosaic.Lib.Pointwise

@[expose] public section

set_option maxRecDepth 16384

noncomputable section

namespace Cert.Proof.Value

open Cert.KernelIdeal Cert.KernelIdeal.Gen
open Idealize.ShloMosaic Idealize.ShloMosaic.TcCoe

/-- An index made non-negative is itself below 128. -/
def wrapWord (x : BitVec 32) : BitVec 32 := Scalar.select (IntOp.cmpi .slt x 0#32) (IntOp.addi x 128#32) x

/-- The column a lane gathers: twice the lane, from the column's parity, within the half the lane selects. -/
theorem colIdx_toNat (p : Nat) (hp : p < 2) (l : Fin 128) :
    (wrapWord (IntOp.addi (IntOp.shli .vector (IntOp.andi (BitVec.ofNat 32 l.val) 63#32) 1#32) (BitVec.ofNat 32 p))).toNat % 128
      = 2 * (l.val % 64) + p := by
  interval_cases p <;> revert l <;> decide

theorem lane_lt_64 (l : Fin 128) :
    IntOp.cmpi .slt (BitVec.ofNat 32 l.val) 64#32 = if l.val < 64 then 1#1 else 0#1 := by
  revert l; decide

theorem scaleCols_apply (p : Nat) (hp : p < 2) (s : FVec Ideal S64x256 .bf16) (t : Fin 32) (b : Fin 2) (l : Fin 128) :
    scaleCols (BitVec.ofNat 32 p) s (ix3 t b l) = s (ix2 ⟨2 * t.val + b.val, by omega⟩ ⟨2 * l.val + p, by omega⟩) := by
  have hc := colIdx_toNat p hp l
  unfold wrapWord at hc
  unfold scaleCols wrap64 lane64
  pointwise
  rw [lane_lt_64]
  simp only [hc]
  split
  · refine congrArg s (congrArg₂ ix2 (Fin.ext ?_) (Fin.ext ?_)) <;> simp only <;> omega
  · refine congrArg s (congrArg₂ ix2 (Fin.ext ?_) (Fin.ext ?_)) <;> simp only <;> omega

theorem scaleEven_apply (p : Nat) (hp : p < 2) (s : FVec Ideal S64x256 .bf16) (t : Fin 32) (l : Fin 128) :
    scaleEven (BitVec.ofNat 32 p) s (ix4 0 0 t l) = s (ix2 ⟨2 * t.val, by omega⟩ ⟨2 * l.val + p, by omega⟩) := by
  refine Eq.trans ?_ (scaleCols_apply p hp s t 0 l)
  unfold scaleEven
  generalize scaleCols (BitVec.ofNat 32 p) s = y
  pointwise

theorem scaleOdd_apply (p : Nat) (hp : p < 2) (s : FVec Ideal S64x256 .bf16) (t : Fin 32) (l : Fin 128) :
    scaleOdd (BitVec.ofNat 32 p) s (ix4 0 0 t l) = s (ix2 ⟨2 * t.val + 1, by omega⟩ ⟨2 * l.val + p, by omega⟩) := by
  refine Eq.trans ?_ (scaleCols_apply p hp s t 1 l)
  unfold scaleOdd
  generalize scaleCols (BitVec.ofNat 32 p) s = y
  pointwise

/-- What plane `(p, b)` of the scratch is to hold, at a row and a lane. -/
def scaleAt (s : FVec Ideal S64x256 .bf16) (y : S2x2x32x128.Idx) : Ideal .bf16 :=
  s (ix2 ⟨2 * (y 2).val + (y 1).val, by have h : (y 2).val < 32 := (y 2).isLt; have h' : (y 1).val < 2 := (y 1).isLt; omega⟩
    ⟨2 * (y 3).val + (y 0).val, by have h : (y 3).val < 128 := (y 3).isLt; have h' : (y 0).val < 2 := (y 0).isLt; omega⟩)

theorem scaleAt_emb (s : FVec Ideal S64x256 .bf16) (p b : Nat) (hp : p < 2) (hb : b < 2)
    (inb : ∀ a, (![p, b, 0, 0] : Fin 4 → Nat) a + S1x1x32x128.size a ≤ S2x2x32x128.size a) (t : Fin 32) (l : Fin 128) :
    scaleAt s ((Rect.unit (s := S2x2x32x128) ![p, b, 0, 0] S1x1x32x128.size inb).emb (ix4 0 0 t l))
      = s (ix2 ⟨2 * t.val + b, by omega⟩ ⟨2 * l.val + p, by omega⟩) := by
  refine congrArg s (congrArg₂ ix2 (Fin.ext ?_) (Fin.ext ?_))
  · show 2 * (0 + 1 * t.val) + (b + 1 * 0) = 2 * t.val + b; omega
  · show 2 * (0 + 1 * l.val) + (p + 1 * 0) = 2 * l.val + p; omega

/-- What the scratch holds at a plane, a row and a lane. -/
theorem canon_scales (s : FVec Ideal S64x256 .bf16) (p b : Fin 2) (t : Fin 32) (l : Fin 128) :
    View.canon (scalePieces s) (ix4 p b t l) = s (ix2 ⟨2 * t.val + b.val, by omega⟩ ⟨2 * l.val + p.val, by omega⟩) := by
  refine View.canon_apply_of_pieces (G := scaleAt s) (scalePieces s) ?_ (ix4 p b t l)
    (View.cover_of_tiled (scalePieces s) S1x1x32x128.size (by rfl) _)
  unfold scalePieces
  simp only [List.forall_mem_cons, List.not_mem_nil, false_imp_iff, implies_true, and_true]
  refine ⟨?_, ?_, ?_, ?_⟩ <;> intro x <;> idx_vars x <;> obtain rfl := Subsingleton.elim x0 0 <;> obtain rfl := Subsingleton.elim x1 0
  · exact (scaleOdd_apply 1 (by decide) s x2 x3).trans (scaleAt_emb s 1 1 (by decide) (by decide) _ x2 x3).symm
  · exact (scaleEven_apply 1 (by decide) s x2 x3).trans (scaleAt_emb s 1 0 (by decide) (by decide) _ x2 x3).symm
  · exact (scaleOdd_apply 0 (by decide) s x2 x3).trans (scaleAt_emb s 0 1 (by decide) (by decide) _ x2 x3).symm
  · exact (scaleEven_apply 0 (by decide) s x2 x3).trans (scaleAt_emb s 0 0 (by decide) (by decide) _ x2 x3).symm

/-- A row of the scratch read sixteen times over. -/
theorem scaleRow_apply (s : FVec Ideal S64x256 .bf16) (p b : Fin 2) (t : Fin 32) (i : Fin 16) (l : Fin 128) :
    View.canon (scalePieces s) ((scaleBox p.val b.val t.val p.isLt b.isLt t.isLt).idx (ix4 0 0 i l))
      = s (ix2 ⟨2 * t.val + b.val, by omega⟩ ⟨2 * l.val + p.val, by omega⟩) := by
  refine (congrArg (View.canon (scalePieces s)) ?_).trans (canon_scales s p b t l)
  funext a
  apply Fin.ext
  match a with
  | ⟨0, _⟩ => show p.val + 1 * 0 = p.val; omega
  | ⟨1, _⟩ => show b.val + 1 * 0 = b.val; omega
  | ⟨2, _⟩ => show t.val + 0 * i.val = t.val; omega
  | ⟨3, _⟩ => show 0 + 1 * l.val = l.val; omega

end Cert.Proof.Value

end
-- ==== Proof.Value.Bridge.lean ====
/-
  What the body leaves in the output block and what the permutation leaves in the scratch, in the named arithmetic.
-/
module

public import proofs.«01_k».proof.Proof.Ideal.Frame
public import proofs.«01_k».proof.Proof.Value.Ops
public import Idealize.ShloMosaic.Lib.Pipeline.ValueKit

@[expose] public section

set_option maxRecDepth 1000000
set_option maxHeartbeats 0

noncomputable section

namespace Cert.Proof.Value

open Cert.KernelIdeal Cert.KernelIdeal.Gen
open Idealize.ShloMosaic Idealize.ShloMosaic.TcCoe
open Cert.Proof.Ideal (Bf laterRun permuteRun iLater iLater_not_first)

variable {F : FTy → Type} [FloatOps F]

theorem row_le (t : Fin 32) (r : Fin 8) : 256 * t.val + 32 * r.val + 32 ≤ 8192 := by omega
theorem col_le (t : Fin 32) : 256 * t.val + 256 ≤ 8192 := by omega
theorem chunk_le (k : Fin 64) : 128 * k.val + 128 ≤ 8192 := by omega

section

variable (c : Dev nD)

/-- Weight tile `t`, from the packed weights in `M` and the scales `s` prepared in the scratch `N`. -/
def tileOf (M : Memref sig .tc .vmem S8192x128 .i8) (N : Memref sig .tc .vmem S2x2x32x128 .f32) (f : Bf (F := F) c M)
    (s : FVec F S64x256 .bf16) (t : Fin 32) : FVec F S256x256 .bf16 :=
  weightTile (fun r => M.view.readAt (Elt F) (rowsBox (256 * t.val + 32 * r.val) (row_le t r)).toLoadRect f)
    (fun p b => N.view.readCov (scalePieces s) (scaleBox p.val b.val t.val p.isLt b.isLt t.isLt))

/-- What the body writes to the output block, from what it reads. -/
def outOf (wg wu : Fin 32 → FVec F S256x256 .bf16) (x : Fin 32 → FVec F S128x256 .bf16) : FVec F S128x256 .bf16 :=
  let u := mxuAfter wg wu x 32 le_rfl
  interleave (gated (u.read 0 0 fits_0_128) ((u.pop 0 0 128 fits_0_128).read 1 0 fits_0_128))

variable (M1 : Memref sig .tc .vmem S128x8192 .bf16) (h1 : M1.IsWhole) (M2 : Memref sig .tc .vmem S8192x128 .i8) (h2 : M2.IsWhole)
    (M3 : Memref sig .tc .vmem S64x256 .bf16) (h3 : M3.IsWhole) (M4 : Memref sig .tc .vmem S8192x128 .i8) (h4 : M4.IsWhole)
    (M5 : Memref sig .tc .vmem S64x256 .bf16) (h5 : M5.IsWhole) (M6 : Memref sig .tc .vmem S128x256 .bf16) (h6 : M6.IsWhole)
    (M7 : Memref sig .tc .vmem S128x8192 .bf16) (h7 : M7.IsWhole) (M8 : Memref sig .tc .vmem S2x2x32x128 .f32) (h8 : M8.IsWhole)
    (M9 : Memref sig .tc .vmem S2x2x32x128 .f32) (h9 : M9.IsWhole)

/-- The scales a block holds, read whole. -/
abbrev scalesOf (M : Memref sig .tc .vmem S64x256 .bf16) (f : Bf (F := F) c M) : FVec F S64x256 .bf16 :=
  M.view.readAt (Elt F) (Rect.unit ![0, 0] S64x256.size inb_S64x256_S64x256_0_0).toLoadRect f

theorem later_eq (f2 : Bf (F := F) c M2) (f3 : Bf (F := F) c M3) (f4 : Bf (F := F) c M4) (f5 : Bf (F := F) c M5) (f7 : Bf (F := F) c M7) :
    (laterRun c iLater iLater_not_first M1 h1 M2 h2 M3 h3 M4 h4 M5 h5 M6 h6 M7 h7 M8 h8 M9 h9 f2 f3 f4 f5 f7).1
      = M6.view.writes (Elt F) M6.view.junk [⟨Rect.unit ![0, 0] S128x256.size inb_S128x256_S128x256_0_0,
          outOf (tileOf c M2 M8 f2 (scalesOf c M3 f3)) (tileOf c M4 M9 f4 (scalesOf c M5 f5))
            (fun t => M7.view.readAt (Elt F) (colsBox (256 * t.val) (col_le t)).toLoadRect f7)⟩] := rfl

theorem permute_eq (i : grid0.Coords) (f1 : Bf (F := F) c M1) :
    (permuteRun c i M1 h1 M2 h2 M3 h3 M4 h4 M5 h5 M6 h6 M7 h7 M8 h8 M9 h9 f1).1
      = M7.view.writes (Elt F) M7.view.junk (List.ofFn fun k : Fin 64 =>
          (⟨chunkBox (128 * k.rev.val) (chunk_le k.rev),
            permuteChunk (M1.view.readAt (Elt F) (chunkBox (128 * k.rev.val) (chunk_le k.rev)).toLoadRect f1)⟩ :
              View.Piece (Elt F) S128x8192 .bf16)) := rfl

end

/-- Weight tile `t` of the packed weights `w` at the scales `s`. -/
def tileVal (w : Vec F S8192x128 .i8) (s : Vec F S64x256 .bf16) (t : Fin 32) : FVec F S256x256 .bf16 :=
  weightTile (fun r => View.ld w (rowsBox (256 * t.val + 32 * r.val) (row_le t r)))
    (fun p b j => View.canon (scalePieces s) ((scaleBox p.val b.val t.val p.isLt b.isLt t.isLt).idx j))

/-- The permuted left operand. -/
def permutedVal (x : Vec F S128x8192 .bf16) : Vec F S128x8192 .bf16 :=
  View.canon (List.ofFn fun k : Fin 64 =>
    (⟨chunkBox (128 * k.rev.val) (chunk_le k.rev),
      permuteChunk (View.ld x (chunkBox (128 * k.rev.val) (chunk_le k.rev)))⟩ :
        View.Piece (Elt F) S128x8192 .bf16))

section

variable (c : Dev nD)
    (M1 : Memref sig .tc .vmem S128x8192 .bf16) (h1 : M1.IsWhole) (M2 : Memref sig .tc .vmem S8192x128 .i8) (h2 : M2.IsWhole)
    (M3 : Memref sig .tc .vmem S64x256 .bf16) (h3 : M3.IsWhole) (M4 : Memref sig .tc .vmem S8192x128 .i8) (h4 : M4.IsWhole)
    (M5 : Memref sig .tc .vmem S64x256 .bf16) (h5 : M5.IsWhole) (M6 : Memref sig .tc .vmem S128x256 .bf16) (h6 : M6.IsWhole)
    (M7 : Memref sig .tc .vmem S128x8192 .bf16) (h7 : M7.IsWhole) (M8 : Memref sig .tc .vmem S2x2x32x128 .f32) (h8 : M8.IsWhole)
    (M9 : Memref sig .tc .vmem S2x2x32x128 .f32) (h9 : M9.IsWhole)

theorem permuted_eq (i : grid0.Coords) (x : Vec F S128x8192 .bf16) :
    Cert.Proof.Ideal.permuted c i M1 h1 M2 h2 M3 h3 M4 h4 M5 h5 M6 h6 M7 h7 M8 h8 M9 h9 x = permutedVal x := by
  rw [Cert.Proof.Ideal.permuted, permute_eq, View.read_writes_junk_eq_canon, permutedVal]
  simp only [View.readAt_eq_ld, Memref.IsWhole.read_unread]

theorem tileOf_eq (M : Memref sig .tc .vmem S8192x128 .i8) (h : M.IsWhole) (N : Memref sig .tc .vmem S2x2x32x128 .f32)
    (w : Vec F S8192x128 .i8) (s : Vec F S64x256 .bf16) (t : Fin 32) : tileOf c M N (h.unread w) s t = tileVal w s t := by
  rw [tileOf, tileVal]
  simp only [View.readAt_eq_ld, Memref.IsWhole.read_unread, View.readCov_eq_canon']
  rfl

theorem scalesOf_eq (M : Memref sig .tc .vmem S64x256 .bf16) (h : M.IsWhole) (s : Vec F S64x256 .bf16) :
    scalesOf c M (h.unread s) = s := by
  rw [scalesOf, View.readAt_eq_ld, Memref.IsWhole.read_unread]
  exact View.ld_unit_lit _ _ (by decide)

theorem outBlock_eq (x2 : Vec F S8192x128 .i8) (x3 : Vec F S64x256 .bf16) (x4 : Vec F S8192x128 .i8) (x5 : Vec F S64x256 .bf16)
    (x7 : Vec F S128x8192 .bf16) :
    Cert.Proof.Ideal.outBlock c M1 h1 M2 h2 M3 h3 M4 h4 M5 h5 M6 h6 M7 h7 M8 h8 M9 h9 x2 x3 x4 x5 x7
      = outOf (tileVal x2 x3) (tileVal x4 x5) (fun t => View.ld x7 (colsBox (256 * t.val) (col_le t))) := by
  rw [Cert.Proof.Ideal.outBlock, later_eq, View.read_writes_junk_eq_canon, View.canon_cons_unit_lit _ _ _ (by decide),
    scalesOf_eq, scalesOf_eq, funext (tileOf_eq c M2 h2 M8 x2 x3), funext (tileOf_eq c M4 h4 M9 x4 x5)]
  simp only [View.readAt_eq_ld, Memref.IsWhole.read_unread]

end

end Cert.Proof.Value

end
-- ==== Proof.Value.Tile.lean ====
/-
  A weight tile at a position: a code times its scale.
-/
module

public import proofs.«01_k».proof.Proof.Value.Codes
public import proofs.«01_k».proof.Proof.Value.Scales
public import proofs.«01_k».proof.Proof.Value.Bridge

@[expose] public section

set_option maxRecDepth 16384

noncomputable section

namespace Cert.Proof.Value

open Cert.KernelIdeal Cert.KernelIdeal.Gen
open Idealize.ShloMosaic Idealize.ShloMosaic.TcCoe

/-- Rows scaled by a load that reads one row of scales sixteen times over. -/
theorem scaleRows_apply (q : FVec Ideal S64x128 .bf16) (ld : FVec Ideal S1x1x16x128 .f32) (s : Fin 128 → EReal)
    (h : ∀ (i : Fin 16) (l : Fin 128), ld (ix4 0 0 i l) = s l) (i : Fin 64) (l : Fin 128) :
    scaleRows q ld (ix2 i l) = ((q (ix2 i l) : EReal) * s l : EReal) := by
  unfold scaleRows
  pointwise
  have e : ∀ (n : Nat) (hn : n < 64), n = i.val → q (ix2 ⟨n, hn⟩ l) = q (ix2 i l) := fun n hn hi => by subst hi; rfl
  simp only [h]
  split_ifs <;> first | rfl | exact congrArg (fun z : EReal => z * s l) (e _ _ (by omega))

/-- A code as an extended real. -/
def codeR (h : Nat) (b : BitVec 8) : EReal := ((code h b : ℝ) : EReal)

/-- The number of a four-bit code, as the program reads it. -/
theorem sitofp_code (v : IVec S64x128 32) (x : S64x128.Idx) (h : Nat) (b : BitVec 8)
    (hv : (v x).toInt = code h b) : (sitofp .bf16 v : FVec Ideal S64x128 .bf16) x = codeR h b :=
  show (((v x).toInt : ℝ) : EReal) = _ by rw [hv]; rfl

/-- Two scaled halves side by side, at a position: the half the column lies in, at the lane within it. -/
theorem sideBySide_apply (q : Fin 2 → IVec S64x128 32) (ld : Fin 2 → FVec Ideal S1x1x16x128 .f32) (s : Fin 2 → Fin 128 → EReal)
    (b : Fin 64 → Fin 128 → BitVec 8)
    (h : ∀ (p : Fin 2) (i : Fin 16) (l : Fin 128), ld p (ix4 0 0 i l) = s p l)
    (hq : ∀ (p : Fin 2) (i : Fin 64) (l : Fin 128), ((q p) (ix2 i l)).toInt = code (4 * p.val) (b i l)) (i : Fin 64) (c : Fin 256) :
    concatenate S64x256 1
      [⟨S64x128, scaleRows (sitofp .bf16 (q 0)) (ld 0)⟩, ⟨S64x128, scaleRows (sitofp .bf16 (q 1)) (ld 1)⟩]
      concatenates_S64x128_S64x128_S64x256_d1 (ix2 i c)
      = (codeR (4 * (c.val / 128)) (b i ⟨c.val % 128, by omega⟩) * s ⟨c.val / 128, by omega⟩ ⟨c.val % 128, by omega⟩ : EReal) := by
  have h0 : ∀ (p : Fin 2) (i : Fin 64) (l : Fin 128), scaleRows (sitofp .bf16 (q p)) (ld p) (ix2 i l) = (codeR (4 * p.val) (b i l) * s p l : EReal) :=
    fun p i l => (scaleRows_apply _ (ld p) (s p) (h p) i l).trans (congrArg (· * s p l) (sitofp_code _ _ _ _ (hq p i l)))
  have h0' := h0 0 i
  have h1' := h0 1 i
  generalize scaleRows _ (ld 0) = y0 at h0' ⊢
  generalize scaleRows _ (ld 1) = y1 at h1' ⊢
  clear h0
  pointwise
  split
  · rw [h0']
    have hd : c.val / 128 = 0 := by omega
    have hm : c.val % 128 = c.val := by omega
    simp only [hd, hm]
    rfl
  · rw [h1']
    have hd : c.val / 128 = 1 := by omega
    have hm : c.val % 128 = c.val - 128 := by omega
    simp only [hd, hm]
    rfl

/-- A 64-row block at a position: the low nibbles' columns first, then the high nibbles'. -/
theorem weightBlock_apply (top bot : Vec Ideal S32x128 .i8) (ld : Fin 2 → FVec Ideal S1x1x16x128 .f32) (s : Fin 2 → Fin 128 → EReal)
    (h : ∀ (p : Fin 2) (i : Fin 16) (l : Fin 128), ld p (ix4 0 0 i l) = s p l) (i : Fin 64) (c : Fin 256) :
    weightBlock top bot (ld 0) (ld 1) (ix2 i c)
      = (codeR (4 * (c.val / 128)) (blockByte top bot i ⟨c.val % 128, by omega⟩)
          * s ⟨c.val / 128, by omega⟩ ⟨c.val % 128, by omega⟩ : EReal) :=
  sideBySide_apply
    (Fin.cons (nibbles (lowWord (bitcast S8x128 32 top bitcasts_S32x128_w8_S8x128_w32) (bitcast S8x128 32 bot bitcasts_S32x128_w8_S8x128_w32)))
      (Fin.cons (nibbles (highWord (bitcast S8x128 32 top bitcasts_S32x128_w8_S8x128_w32) (bitcast S8x128 32 bot bitcasts_S32x128_w8_S8x128_w32)))
        Fin.elim0))
    ld s (blockByte top bot) h (Fin.forall_fin_two.2 ⟨low_code top bot, high_code top bot⟩) i c

/-- The packed row a row `k` of a tile comes from, within the tile's 256 packed rows: in each 64 the even rows
    are the first 32 packed rows, the odd ones the other 32. -/
def rowOf (k : Nat) : Nat := 64 * (k / 64) + 32 * (k % 2) + (k % 64) / 2

theorem rowOf_lt (k : Fin 256) : rowOf k.val < 256 := by unfold rowOf; omega

/-- A weight tile at a position, over its eight runs of packed rows and its four scale rows. -/
theorem weightTile_apply (w : Fin 8 → Vec Ideal S32x128 .i8) (ld : Fin 2 → Fin 2 → FVec Ideal S1x1x16x128 .f32)
    (s : Fin 2 → Fin 2 → Fin 128 → EReal) (h : ∀ (p b : Fin 2) (i : Fin 16) (l : Fin 128), ld p b (ix4 0 0 i l) = s p b l)
    (k : Fin 256) (c : Fin 256) :
    weightTile w ld (ix2 k c)
      = (codeR (4 * (c.val / 128)) (w ⟨rowOf k.val / 32, by have := rowOf_lt k; omega⟩ (ix2 ⟨rowOf k.val % 32, by omega⟩ ⟨c.val % 128, by omega⟩))
          * s ⟨c.val / 128, by omega⟩ ⟨k.val / 128, by omega⟩ ⟨c.val % 128, by omega⟩ : EReal) := by
  unfold weightTile
  have hb : ∀ (j : Fin 4) (b : Fin 2) (i : Fin 64), j.val / 2 = b.val → k.val = 64 * j.val + i.val →
      weightBlock (w ⟨2 * j.val, by omega⟩) (w ⟨2 * j.val + 1, by omega⟩) (ld 0 b) (ld 1 b) (ix2 i c)
        = (codeR (4 * (c.val / 128)) (w ⟨rowOf k.val / 32, by have := rowOf_lt k; omega⟩ (ix2 ⟨rowOf k.val % 32, by omega⟩ ⟨c.val % 128, by omega⟩))
          * s ⟨c.val / 128, by omega⟩ ⟨k.val / 128, by omega⟩ ⟨c.val % 128, by omega⟩ : EReal) := by
    intro j b i hjb hk
    refine (weightBlock_apply _ _ (fun p => ld p b) (fun p => s p b) (fun p => h p b) i c).trans ?_
    have e1 : (⟨k.val / 128, by omega⟩ : Fin 2) = b := Fin.ext (by simp only; omega)
    rw [e1]
    refine congrArg (fun z => (codeR (4 * (c.val / 128)) z * s ⟨c.val / 128, by omega⟩ b ⟨c.val % 128, by omega⟩ : EReal)) ?_
    unfold blockByte
    split
    · refine congr (congrArg w (Fin.ext ?_)) (congrArg₂ ix2 (Fin.ext ?_) rfl) <;> simp only [rowOf] <;> omega
    · refine congr (congrArg w (Fin.ext ?_)) (congrArg₂ ix2 (Fin.ext ?_) rfl) <;> simp only [rowOf] <;> omega
  have hb0 := fun i => hb 0 0 i rfl
  have hb1 := fun i => hb 1 0 i rfl
  have hb2 := fun i => hb 2 1 i rfl
  have hb3 := fun i => hb 3 1 i rfl
  change ∀ i : Fin 64, _ → weightBlock (w 0) (w 1) (ld 0 0) (ld 1 0) (ix2 i c) = _ at hb0
  change ∀ i : Fin 64, _ → weightBlock (w 2) (w 3) (ld 0 0) (ld 1 0) (ix2 i c) = _ at hb1
  change ∀ i : Fin 64, _ → weightBlock (w 4) (w 5) (ld 0 1) (ld 1 1) (ix2 i c) = _ at hb2
  change ∀ i : Fin 64, _ → weightBlock (w 6) (w 7) (ld 0 1) (ld 1 1) (ix2 i c) = _ at hb3
  generalize weightBlock (w 0) (w 1) (ld 0 0) (ld 1 0) = y0 at hb0 ⊢
  generalize weightBlock (w 2) (w 3) (ld 0 0) (ld 1 0) = y1 at hb1 ⊢
  generalize weightBlock (w 4) (w 5) (ld 0 1) (ld 1 1) = y2 at hb2 ⊢
  generalize weightBlock (w 6) (w 7) (ld 0 1) (ld 1 1) = y3 at hb3 ⊢
  pointwise
  clear hb
  have hk := k.isLt
  split_ifs <;> first
    | exact hb0 _ (by simp)
    | exact hb1 _ (show k.val = 64 * 1 + (k.val - 64) by omega)
    | exact hb2 _ (show k.val = 64 * 2 + (k.val - 64 - 64) by omega)
    | exact hb3 _ (show k.val = 64 * 3 + (k.val - 64 - 64 - 64) by omega)
    | omega

/-- Thirty-two packed rows at a position. -/
theorem ld_rows (w : Vec Ideal S8192x128 .i8) (o : Nat) (h : o + 32 ≤ 8192) (i : Fin 32) (l : Fin 128) :
    View.ld w (rowsBox o h) (ix2 i l) = w (ix2 ⟨o + i.val, by omega⟩ l) := by
  refine congrArg w ?_
  funext a
  apply Fin.ext
  match a with
  | ⟨0, _⟩ => show o + 1 * i.val = o + i.val; omega
  | ⟨1, _⟩ => show 0 + 1 * l.val = l.val; omega

/-- Weight tile `t` at a position: the code of the packed byte there, times the scale of its group and column. -/
theorem tileVal_apply (w : Vec Ideal S8192x128 .i8) (s : FVec Ideal S64x256 .bf16) (t : Fin 32) (k c : Fin 256) :
    tileVal w s t (ix2 k c)
      = (codeR (4 * (c.val / 128)) (w (ix2 ⟨256 * t.val + rowOf k.val, by have := rowOf_lt k; omega⟩ ⟨c.val % 128, by omega⟩))
          * s (ix2 ⟨2 * t.val + k.val / 128, by omega⟩ ⟨2 * (c.val % 128) + c.val / 128, by omega⟩) : EReal) := by
  unfold tileVal
  refine (weightTile_apply (fun r => View.ld w (rowsBox (256 * t.val + 32 * r.val) (row_le t r)))
    (fun p b j => View.canon (scalePieces s) ((scaleBox p.val b.val t.val p.isLt b.isLt t.isLt).idx j)) (fun p b l => s (ix2 ⟨2 * t.val + b.val, by omega⟩ ⟨2 * l.val + p.val, by omega⟩))
    (fun p b i l => scaleRow_apply s p b t i l) k c).trans ?_
  refine congrArg (· * (s (ix2 ⟨2 * t.val + k.val / 128, by omega⟩ ⟨2 * (c.val % 128) + c.val / 128, by omega⟩) : EReal))
    (congrArg (codeR (4 * (c.val / 128))) ?_)
  have hk := rowOf_lt k
  refine (ld_rows w _ _ _ _).trans (congrArg w (congrArg₂ ix2 (Fin.ext ?_) rfl))
  simp only
  omega

end Cert.Proof.Value

end
-- ==== Proof.Value.Permute.lean ====
/-
  The left operand permuted: column `128 k + l` of the permuted operand is column `128 k + rowOf l` of the operand, the same
  permutation that the packed rows of the weights undergo.
-/
module

public import proofs.«01_k».proof.Proof.Value.Tile

@[expose] public section

noncomputable section

namespace Cert.Proof.Value

open Cert.KernelIdeal Cert.KernelIdeal.Gen
open Idealize.ShloMosaic Idealize.ShloMosaic.TcCoe

/-- One chunk, its lanes permuted. -/
theorem permuteChunk_apply (x : FVec Ideal S128x128 .bf16) (a l : Fin 128) :
    permuteChunk x (ix2 a l) = x (ix2 a ⟨rowOf l.val, by unfold rowOf; omega⟩) := by
  unfold permuteChunk wrap128 permIdx lane128
  pointwise
  refine congrArg x (congrArg₂ ix2 rfl (Fin.ext ?_))
  simp only
  clear x a
  revert l
  decide

/-- One chunk of the operand at a position. -/
theorem ld_chunk (x : Vec Ideal S128x8192 .bf16) (o : Nat) (h : o + 128 ≤ 8192) (a l : Fin 128) :
    View.ld x (chunkBox o h) (ix2 a l) = x (ix2 a ⟨o + l.val, by omega⟩) := by
  refine congrArg x ?_
  funext b
  apply Fin.ext
  match b with
  | ⟨0, _⟩ => show 0 + 1 * a.val = a.val; omega
  | ⟨1, _⟩ => show o + 1 * l.val = o + l.val; omega

/-- The permuted operand at a position. -/
theorem permutedVal_apply (x : Vec Ideal S128x8192 .bf16) (a : Fin 128) (c : Fin 8192) :
    permutedVal x (ix2 a c) = x (ix2 a ⟨128 * (c.val / 128) + rowOf (c.val % 128), by unfold rowOf; omega⟩) := by
  unfold permutedVal
  refine View.canon_ofFn_eq_of_forall (Val := Elt Ideal) (e := .bf16) (fun k : Fin 64 => chunkBox (128 * k.rev.val) (chunk_le k.rev))
    (fun k : Fin 64 => permuteChunk (F := Ideal) (View.ld x (chunkBox (128 * k.rev.val) (chunk_le k.rev)))) (ix2 a c) _
    ⟨Fin.rev ⟨c.val / 128, by omega⟩, ?_⟩ ?_
  · refine Rect.mem_set_unit.mpr fun b => ?_
    have hk : (Fin.rev (Fin.rev (⟨c.val / 128, by omega⟩ : Fin 64))).val = c.val / 128 := by rw [Fin.rev_rev]
    match b with
    | ⟨0, _⟩ => exact ⟨Nat.zero_le _, show a.val < 0 + 128 by omega⟩
    | ⟨1, _⟩ =>
      refine ⟨?_, ?_⟩
      · show 128 * (Fin.rev (Fin.rev (⟨c.val / 128, _⟩ : Fin 64))).val ≤ c.val
        rw [hk]; omega
      · show c.val < 128 * (Fin.rev (Fin.rev (⟨c.val / 128, _⟩ : Fin 64))).val + 128
        rw [hk]; omega
  · intro k' z hz
    idx_vars z
    have h0 : (0 + 1 * z0.val : Nat) = a.val := congrArg (fun y : S128x8192.Idx => (y 0).val) hz
    have h1 : (128 * k'.rev.val + 1 * z1.val : Nat) = c.val := congrArg (fun y : S128x8192.Idx => (y 1).val) hz
    have hz0 : z0 = a := Fin.ext (by omega)
    have hz1 := z1.isLt
    refine (permuteChunk_apply _ z0 z1).trans ((ld_chunk x _ (chunk_le k'.rev) z0 _).trans (congrArg x (congrArg₂ ix2 hz0 (Fin.ext ?_))))
    show 128 * k'.rev.val + rowOf z1.val = 128 * (c.val / 128) + rowOf (c.val % 128)
    rw [show c.val / 128 = k'.rev.val by omega, show c.val % 128 = z1.val by omega]

end Cert.Proof.Value

end
-- ==== Proof.Value.Units.lean ====
/-
  The two matrix units after the steps: each holds the sum of the passes of its own weight tiles.
-/
module

public import proofs.«01_k».proof.Proof.Value.Ops
public import Idealize.ShloMosaic.Lib.Mxu.Lemmas
public import Idealize.ShloMosaic.Lib.Pipeline.ValueKit
public import Idealize.ShloMosaic.Lib.Pointwise
public import Idealize.ShloMosaic.Lib.MatmulPlain

@[expose] public section

noncomputable section

namespace Cert.Proof.Value

open Cert.KernelIdeal Cert.KernelIdeal.Gen
open Idealize.ShloMosaic Idealize.ShloMosaic.TcCoe

section

variable {F : FTy → Type} [FloatOps F]

/-- One pass of the left operand's columns through a tile. -/
def pass (w : FVec F S256x256 .bf16) (x : FVec F S128x256 .bf16) : FVec F S128x256 .f32 :=
  FloatOps.mxuPass (DotDims.plain 128 256 256) x w

variable (s : Mxu F) (r : Fin 2) (wg wu : FVec F S256x256 .bf16) (x : FVec F S128x256 .bf16)

/-- A step from empty registers leaves them empty. -/
theorem reg_step (h : ∀ q r', s.reg q r' = none) (q r' : Fin 2) : (mxuStep s r wg wu x).reg q r' = none := by
  unfold mxuStep
  by_cases h1 : q = 1 ∧ r' = r
  · obtain ⟨rfl, rfl⟩ := h1
    exact Mxu.reg_accLhs ..
  rw [Mxu.reg_accLhs_ne (hne := h1)]
  by_cases h0 : q = 0 ∧ r' = r
  · obtain ⟨rfl, rfl⟩ := h0
    exact Mxu.reg_accLhs ..
  rw [Mxu.reg_accLhs_ne (hne := h0), Mxu.reg_pushed_ne (hne := h1), Mxu.reg_pushed_ne (hne := h0), h]

/-- A step deposits the pass of the first tile in unit 0. -/
theorem read0_step (h : ∀ q r', s.reg q r' = none) (i : S128x256.Idx) :
    (mxuStep s r wg wu x).read 0 0 fits_0_128 i
      = Mxu.deposit (s.live 0 (Mxu.row fits_0_128 (i 0))) (s.read 0 0 fits_0_128 i) (pass wg x i) := by
  have hr : ((s.pushed 0 r false wg).pushed 1 r false wu).staged 0 r = ⟨.bf16, false, wg⟩ := by
    rw [Mxu.staged_eq, Mxu.reg_pushed_ne (hne := by simp), Mxu.reg_pushed_of_none (hn := h 0 r)]
    rfl
  unfold mxuStep
  rw [Mxu.read_accLhs_ne (hne := Or.inl (by decide)), Mxu.read_accLhs, hr]
  simp only [Mxu.live_pushed, Mxu.read_pushed]
  rfl

/-- And the pass of the second tile in unit 1. -/
theorem read1_step (h : ∀ q r', s.reg q r' = none) (i : S128x256.Idx) :
    (mxuStep s r wg wu x).read 1 0 fits_0_128 i
      = Mxu.deposit (s.live 1 (Mxu.row fits_0_128 (i 0))) (s.read 1 0 fits_0_128 i) (pass wu x i) := by
  have hr : (((s.pushed 0 r false wg).pushed 1 r false wu).accLhs 0 r 0 x fits_0_128).staged 1 r = ⟨.bf16, false, wu⟩ := by
    rw [Mxu.staged_eq, Mxu.reg_accLhs_ne (hne := by simp),
      Mxu.reg_pushed_of_none (hn := by rw [Mxu.reg_pushed_ne (hne := by simp), h])]
    rfl
  unfold mxuStep
  rw [Mxu.read_accLhs, hr, Mxu.read_accLhs_ne (hne := Or.inl (by decide))]
  simp only [Mxu.live_accLhs, Mxu.live_pushed, Mxu.read_pushed]
  rfl

/-- After a step the rows of both units are live. -/
theorem live_step (q : Fin 2) (i : Fin 128) : (mxuStep s r wg wu x).live q (Mxu.row fits_0_128 i) = true := by
  unfold mxuStep
  match q with
  | 0 =>
    rw [Mxu.live_accLhs, if_neg (by simp)]
    exact Mxu.live_accLhs_row ..
  | 1 => exact Mxu.live_accLhs_row ..

end

/-- A pass at an index is the sum over the 256 contracted positions. -/
theorem pass_apply (w : FVec Ideal S256x256 .bf16) (x : FVec Ideal S128x256 .bf16) (a : Fin 128) (c : Fin 256) :
    pass w x (ix2 a c) = (∑ k : Fin 256, (x (ix2 a k) : EReal) * (w (ix2 k c) : EReal) : EReal) := by
  show Ideal.mxuPass (DotDims.plain 128 256 256) x w (ix2 a c) = _
  unfold Ideal.mxuPass
  rw [← Equiv.sum_comp (DotDims.plainContr 128 256 256).symm]
  refine Finset.sum_congr rfl fun k _ => ?_
  have hk := ValueIdx.contrEquiv1_symm_val _ 256 (DotDims.plain_contr_rank 128 256 256) (DotDims.plain_contr_size 128 256 256) k
  have el : (DotDims.plain 128 256 256).lhsIdx (ix2 a c) ((DotDims.plainContr 128 256 256).symm k) = ix2 a k := by
    funext b; apply Fin.ext
    match b with
    | ⟨0, _⟩ => rfl
    | ⟨1, _⟩ => exact hk
  have er : (DotDims.plain 128 256 256).rhsIdx (ix2 a c) ((DotDims.plainContr 128 256 256).symm k) = ix2 k c := by
    funext b; apply Fin.ext
    match b with
    | ⟨0, _⟩ => exact hk
    | ⟨1, _⟩ => rfl
  rw [el, er]

/-- The registers of both units are empty, and a row of a result that is not live reads zero. -/
structure Ready (s : Mxu Ideal) : Prop where
  reg : ∀ q r, s.reg q r = none
  live : ∀ (q : Fin 2) (i : S128x256.Idx), s.live q (Mxu.row fits_0_128 (i 0)) = true ∨ s.read q 0 fits_0_128 i = (0 : EReal)

theorem Ready.deposit {s : Mxu Ideal} (h : Ready s) (q : Fin 2) (i : S128x256.Idx) (y : EReal) :
    (Mxu.deposit (F := Ideal) (s.live q (Mxu.row fits_0_128 (i 0))) (s.read q 0 fits_0_128 i) y : EReal) = (s.read q 0 fits_0_128 i : EReal) + y := by
  rcases h.live q i with hl | hz
  · rw [hl]; rfl
  · cases hl : s.live q (Mxu.row fits_0_128 (i 0))
    · rw [hz, zero_add]; rfl
    · rfl

variable (wg wu : Fin 32 → FVec Ideal S256x256 .bf16) (x : Fin 32 → FVec Ideal S128x256 .bf16)

theorem ready_after : ∀ (n : Nat) (h : n ≤ 32), Ready (mxuAfter wg wu x n h)
  | 0, _ => ⟨fun q r => Mxu.reg_init .., fun q i => Or.inr (by
      show (Mxu.init : Mxu Ideal).read q 0 fits_0_128 i = (0 : EReal)
      rw [Mxu.read_init]; exact Ideal.ofBits_zero_f32)⟩
  | n + 1, h => ⟨reg_step _ _ _ _ _ (ready_after n _).reg, fun q i => Or.inl (live_step ..)⟩

/-- Unit 0 after the first `n` steps. -/
theorem read0_after (i : S128x256.Idx) : ∀ (n : Nat) (h : n ≤ 32),
    (mxuAfter wg wu x n h).read 0 0 fits_0_128 i = (∑ t : Fin n, (pass (wg (t.castLE h)) (x (t.castLE h)) i : EReal) : EReal)
  | 0, _ => by
    show (Mxu.init : Mxu Ideal).read 0 0 fits_0_128 i = _
    rw [Mxu.read_init, Fin.sum_univ_zero]; exact Ideal.ofBits_zero_f32
  | n + 1, h => by
    rw [Fin.sum_univ_castSucc]
    refine (read0_step _ _ _ _ _ (ready_after wg wu x n _).reg i).trans (((ready_after wg wu x n _).deposit 0 i _).trans ?_)
    rw [read0_after i n]
    rfl

/-- Unit 1 after the first `n` steps. -/
theorem read1_after (i : S128x256.Idx) : ∀ (n : Nat) (h : n ≤ 32),
    (mxuAfter wg wu x n h).read 1 0 fits_0_128 i = (∑ t : Fin n, (pass (wu (t.castLE h)) (x (t.castLE h)) i : EReal) : EReal)
  | 0, _ => by
    show (Mxu.init : Mxu Ideal).read 1 0 fits_0_128 i = _
    rw [Mxu.read_init, Fin.sum_univ_zero]; exact Ideal.ofBits_zero_f32
  | n + 1, h => by
    rw [Fin.sum_univ_castSucc]
    refine (read1_step _ _ _ _ _ (ready_after wg wu x n _).reg i).trans (((ready_after wg wu x n _).deposit 1 i _).trans ?_)
    rw [read1_after i n]
    rfl

end Cert.Proof.Value

end
-- ==== Proof.Value.Dot.lean ====
/-
  What a matrix unit holds after all its steps: the product of a row of the left operand with a column of dequantised
  weights, over all 8192 positions. The steps meet the positions permuted, on both sides alike.
-/
module

public import proofs.«01_k».proof.Proof.Value.Permute
public import proofs.«01_k».proof.Proof.Value.Units

@[expose] public section

noncomputable section

namespace Cert.Proof.Value

open Cert.KernelIdeal Cert.KernelIdeal.Gen
open Idealize.ShloMosaic Idealize.ShloMosaic.TcCoe

/-- The row of a tile that a packed row goes to. -/
def rowBack (r : Fin 256) : Fin 256 := ⟨64 * (r.val / 64) + 2 * (r.val % 32) + r.val % 64 / 32, by omega⟩

theorem rowBack_rowOf : ∀ k : Fin 256, rowBack ⟨rowOf k.val, rowOf_lt k⟩ = k := by decide

theorem rowOf_rowBack : ∀ k : Fin 256, (⟨rowOf (rowBack k).val, rowOf_lt _⟩ : Fin 256) = k := by decide

/-- The permutation stays within each half of a tile. -/
theorem rowOf_half : ∀ k : Fin 256, rowOf k.val / 128 = k.val / 128 := by decide

/-- The permutation of a tile's rows. -/
def rowPerm : Equiv.Perm (Fin 256) := ⟨fun k => ⟨rowOf k.val, rowOf_lt k⟩, rowBack, rowBack_rowOf, rowOf_rowBack⟩

/-- A sum over the steps and the permuted positions of a step is the sum over all positions. -/
theorem sum_steps (f : Nat → EReal) :
    (∑ t : Fin 32, ∑ k : Fin 256, f (256 * t.val + rowOf k.val) : EReal) = ∑ d : Fin 8192, f d.val := by
  have h1 : ∀ t : Fin 32, (∑ k : Fin 256, f (256 * t.val + rowOf k.val) : EReal) = ∑ k : Fin 256, f (256 * t.val + k.val) := fun t =>
    Equiv.sum_comp rowPerm fun k : Fin 256 => f (256 * t.val + k.val)
  rw [Finset.sum_congr rfl fun t _ => h1 t, ← Fin.sum_univ_mul_divmod 32 256 fun t k => f (256 * t + k)]
  exact Finset.sum_congr rfl fun d _ => congrArg f (by omega)

/-- Two hundred and fifty-six columns of the operand at a position. -/
theorem ld_cols (x : Vec Ideal S128x8192 .bf16) (o : Nat) (h : o + 256 ≤ 8192) (a : Fin 128) (k : Fin 256) :
    View.ld x (colsBox o h) (ix2 a k) = x (ix2 a ⟨o + k.val, by omega⟩) := by
  refine congrArg x ?_
  funext b
  apply Fin.ext
  match b with
  | ⟨0, _⟩ => show 0 + 1 * a.val = a.val; omega
  | ⟨1, _⟩ => show o + 1 * k.val = o + k.val; omega

/-- One column of dequantised weights against one row of the operand: column `c` of the block is lane `c % 128` of
    the packed rows, its low nibbles for `c < 128`, its high nibbles after. -/
def dot (w : Vec Ideal S8192x128 .i8) (s : Vec Ideal S64x256 .bf16) (x : Vec Ideal S128x8192 .bf16) (a : Fin 128) (c : Fin 256) : EReal :=
  ∑ d : Fin 8192, (x (ix2 a d) : EReal) *
    (codeR (4 * (c.val / 128)) (w (ix2 d ⟨c.val % 128, by omega⟩)) *
      s (ix2 ⟨d.val / 128, by omega⟩ ⟨2 * (c.val % 128) + c.val / 128, by omega⟩) : EReal)

/-- The sum of the passes of all the tiles. -/
theorem passes_eq (w : Vec Ideal S8192x128 .i8) (s : Vec Ideal S64x256 .bf16) (x : Vec Ideal S128x8192 .bf16) (a : Fin 128) (c : Fin 256) :
    (∑ t : Fin 32, (pass (tileVal w s t) (View.ld (permutedVal x) (colsBox (256 * t.val) (col_le t))) (ix2 a c) : EReal) : EReal)
      = dot w s x a c := by
  have hf : ∀ (d d' : Fin 8192), d.val = d'.val →
      ((x (ix2 a d) : EReal) * (codeR (4 * (c.val / 128)) (w (ix2 d ⟨c.val % 128, by omega⟩)) *
        s (ix2 ⟨d.val / 128, by omega⟩ ⟨2 * (c.val % 128) + c.val / 128, by omega⟩) : EReal) : EReal)
      = (x (ix2 a d') : EReal) * (codeR (4 * (c.val / 128)) (w (ix2 d' ⟨c.val % 128, by omega⟩)) *
        s (ix2 ⟨d'.val / 128, by omega⟩ ⟨2 * (c.val % 128) + c.val / 128, by omega⟩) : EReal) := fun d d' h => by
    obtain rfl := Fin.ext h; rfl
  let f : Nat → EReal := fun d => if h : d < 8192 then
    ((x (ix2 a ⟨d, h⟩) : EReal) * (codeR (4 * (c.val / 128)) (w (ix2 ⟨d, h⟩ ⟨c.val % 128, by omega⟩)) *
        s (ix2 ⟨d / 128, by omega⟩ ⟨2 * (c.val % 128) + c.val / 128, by omega⟩) : EReal) : EReal) else 0
  have hd : dot w s x a c = ∑ d : Fin 8192, f d.val := Finset.sum_congr rfl fun d _ => by
    simp only [f]; rw [dif_pos d.isLt]
  rw [hd, ← sum_steps]
  refine Finset.sum_congr rfl fun t _ => (pass_apply _ _ a c).trans (Finset.sum_congr rfl fun k _ => ?_)
  have hk := rowOf_lt k
  have ht := t.isLt
  simp only [f]
  rw [dif_pos (show 256 * t.val + rowOf k.val < 8192 by omega)]
  refine congrArg₂ (fun y z : EReal => y * z) ?_ ?_
  · refine (ld_cols _ _ _ a k).trans ((permutedVal_apply x a _).trans (congrArg x (congrArg₂ ix2 rfl (Fin.ext ?_))))
    simp only [rowOf]
    omega
  · refine (tileVal_apply w s t k c).trans (congrArg (fun z : EReal => (codeR (4 * (c.val / 128)) _ * z : EReal)) ?_)
    refine congrArg s (congrArg₂ ix2 (Fin.ext ?_) rfl)
    have hh := rowOf_half k
    simp only
    omega

end Cert.Proof.Value

end
-- ==== Proof.Value.Out.lean ====
/-
  The block of results one point stores: column `n` of the block is the gated product of column `128 (n % 2) + n / 2`
  of the two matrix units.
-/
module

public import proofs.«01_k».proof.Proof.Value.Dot

@[expose] public section

noncomputable section

namespace Cert.Proof.Value

open Cert.KernelIdeal Cert.KernelIdeal.Gen
open Idealize.ShloMosaic Idealize.ShloMosaic.TcCoe

/-- The gate: `g` times its logistic, times `u`. -/
def gate (g u : EReal) : EReal := g * Ideal.logistic g * u

theorem gated_apply (g u : FVec Ideal S128x256 .f32) (i : S128x256.Idx) : gated g u i = gate (g i) (u i) := rfl

/-- The lane a lane of the interleaved columns gathers: half of it, from the half's start. -/
theorem halfIdx_toNat : ∀ (o : Fin 2) (l : Fin 128),
    (wrapWord (IntOp.addi (IntOp.shrsi .vector (BitVec.ofNat 32 l.val) 1#32) (BitVec.ofNat 32 (64 * o.val)))).toNat % 128
      = 64 * o.val + l.val / 2 := by
  refine Fin.forall_fin_two.2 ⟨?_, ?_⟩ <;> decide

theorem lane_even (l : Fin 128) :
    IntOp.cmpi .eq (IntOp.andi (BitVec.ofNat 32 l.val) 1#32) 0#32 = if l.val % 2 = 0 then 1#1 else 0#1 := by
  revert l; decide

/-- A half of the interleaved columns at a position. -/
theorem zipHalf_apply (o : Fin 2) (e d : FVec Ideal S128x128 .f32) (a l : Fin 128) :
    zipHalf (BitVec.ofNat 32 (64 * o.val)) e d (ix2 a l)
      = if l.val % 2 = 0 then e (ix2 a ⟨64 * o.val + l.val / 2, by omega⟩) else d (ix2 a ⟨64 * o.val + l.val / 2, by omega⟩) := by
  have hc := halfIdx_toNat o l
  unfold wrapWord at hc
  unfold zipHalf wrap128 lane128
  pointwise
  rw [lane_even]
  simp only [hc]
  by_cases h : l.val % 2 = 0
  · rw [if_pos h, if_pos h]; rfl
  · rw [if_neg h, if_neg h]; rfl

/-- The interleaved columns at a position. -/
theorem interleave_apply (h : FVec Ideal S128x256 .f32) (a : Fin 128) (n : Fin 256) :
    interleave h (ix2 a n) = h (ix2 a ⟨128 * (n.val % 2) + n.val / 2, by omega⟩) := by
  unfold interleave
  have h0 := zipHalf_apply 0
  have h1 := zipHalf_apply 1
  change ∀ e d a l, zipHalf 0#32 e d (ix2 a l) = _ at h0
  change ∀ e d a l, zipHalf 64#32 e d (ix2 a l) = _ at h1
  pointwise
  have hi : ∀ (c c' : Fin 256), c.val = c'.val → h (ix2 a c) = h (ix2 a c') := fun c c' e => by rw [Fin.ext e]
  split
  · rw [h0]
    pointwise
    split <;> refine hi _ _ ?_ <;> simp <;> omega
  · rw [h1]
    pointwise
    split <;> refine hi _ _ ?_ <;> simp <;> omega

/-- The block of results at a position: the gated product of the two columns' products. -/
theorem outOf_apply (wg wu : Vec Ideal S8192x128 .i8) (sg su : Vec Ideal S64x256 .bf16) (x : Vec Ideal S128x8192 .bf16)
    (a : Fin 128) (n : Fin 256) :
    outOf (tileVal wg sg) (tileVal wu su) (fun t => View.ld (permutedVal x) (colsBox (256 * t.val) (col_le t))) (ix2 a n)
      = gate (dot wg sg x a ⟨128 * (n.val % 2) + n.val / 2, by omega⟩) (dot wu su x a ⟨128 * (n.val % 2) + n.val / 2, by omega⟩) := by
  unfold outOf
  refine (interleave_apply _ a n).trans (congrArg₂ gate ?_ ?_)
  · refine (read0_after _ _ _ _ 32 le_rfl).trans ?_
    exact passes_eq wg sg x a _
  · rw [Mxu.read_pop_ne (hne := Or.inl (by decide))]
    refine (read1_after _ _ _ _ 32 le_rfl).trans ?_
    exact passes_eq wu su x a _

end Cert.Proof.Value

end
-- ==== Proof.Value.Ref.lean ====
/-
  The reference's result at a position: the gated product of the two projections, each over all 8192 positions.
-/
module

public import proofs.«01_k».proof.Proof.Gen.ReferenceIdeal.Run
public import proofs.«01_k».proof.Proof.Value.Out

@[expose] public section

noncomputable section

namespace Cert.Proof.Value.Ref

open Cert.ReferenceIdeal Cert.ReferenceIdeal.Gen
open Idealize.ShloMosaic Idealize.ShloMosaic.TcCoe

/-- The codes of one nibble, dequantised by the scales' columns from column `o`. -/
def weights (q : IVec S8192x1408 32) (s : FVec Ideal S64x1408 .bf16) : FVec Ideal S8192x1408 .bf16 :=
  shapeCast _ (mulf (shapeCast _ (subf (sitofp .bf16 q) (broadcastInDim S8192x1408 ![] bcast_S_S8192x1408 (constant S_ .bf16 0x4100#16)))
    shapeCasts_S8192x1408_S64x128x1408) (broadcastInDim S64x128x1408 ![0, 1, 2] bcast_S64x1x1408_S64x128x1408_0_1_2
      (broadcastInDim S64x1x1408 ![0, 2] bcast_S64x1408_S64x1x1408_0_2 s))) shapeCasts_S64x128x1408_S8192x1408

/-- The low nibbles of the packed bytes. -/
def lows (w : Vec Ideal S8192x1408 .i8) : IVec S8192x1408 32 :=
  andi (extui 32 w natLt_8_32) (broadcastInDim S8192x1408 ![] bcast_S_S8192x1408 (constantI S_ 32 15#32))

/-- The high nibbles of the packed bytes. -/
def highs (w : Vec Ideal S8192x1408 .i8) : IVec S8192x1408 32 :=
  Host.shrsi (extui 32 w natLt_8_32) (broadcastInDim S8192x1408 ![] bcast_S_S8192x1408 (constantI S_ 32 4#32))

/-- A product of the operand with a matrix of weights, as a column of pairs. -/
def product (x : FVec Ideal S128x1x8192 .bf16) (w : FVec Ideal S8192x1408 .bf16) : FVec Ideal S128x1x1408x1 .f32 :=
  broadcastInDim S128x1x1408x1 ![0, 1, 2] bcast_S128x1x1408_S128x1x1408x1_0_1_2
    (Host.dotGeneral dot_S128x1x8192_S8192x1408_S128x1x1408_2_0_01_1_n_n none x w)

/-- One projection: the products with the even and the odd columns, interleaved. -/
def project (x : FVec Ideal S128x1x8192 .bf16) (w : Vec Ideal S8192x1408 .i8) (s : FVec Ideal S64x2816 .bf16) : FVec Ideal S128x1x2816 .f32 :=
  shapeCast _ (concatenate S128x1x1408x2 3
    [⟨S128x1x1408x1, product x (weights (lows w) (Host.slice S64x1408 ![0, 0] ![1, 2] s slicesBy_S64x2816_S64x1408_0s1_0s2))⟩,
     ⟨S128x1x1408x1, product x (weights (highs w) (Host.slice S64x1408 ![0, 1] ![1, 2] s slicesBy_S64x2816_S64x1408_0s1_1s2))⟩]
    concatenates_S128x1x1408x1_S128x1x1408x1_S128x1x1408x2_d3) shapeCasts_S128x1x1408x2_S128x1x2816

/-- The gated product of two projections. -/
def swiglu (g u : FVec Ideal S128x1x2816 .f32) : FVec Ideal S128x2816 .bf16 :=
  shapeCast _ (truncf .bf16 (mulf (mulf g (Host.divf (broadcastInDim S128x1x2816 ![] bcast_S_S128x1x2816 (constant S_ .f32 0x3F800000#32))
    (addf (broadcastInDim S128x1x2816 ![] bcast_S_S128x1x2816 (constant S_ .f32 0x3F800000#32)) (Host.exp (Host.negf g))))) u)
    bitsLt_bf16_f32) shapeCasts_S128x1x2816_S128x2816

/-- The reference's result is the gated product of the two projections. -/
theorem res_eq (m : (ℓ : Loc nD τ sig) → Buf (Elt Ideal) ℓ) (c : Dev nD) :
    Cert.ReferenceIdeal.Value.res_main_v67 m c
      = swiglu (project (m ((c.tc : Thread nD τ).loc main_arg0)) (m ((c.tc : Thread nD τ).loc main_arg1)) (m ((c.tc : Thread nD τ).loc main_arg2)))
          (project (m ((c.tc : Thread nD τ).loc main_arg0)) (m ((c.tc : Thread nD τ).loc main_arg3)) (m ((c.tc : Thread nD τ).loc main_arg4))) := rfl

/-- Dequantised weights at a position: the code less 8, times the scale of its group. -/
theorem weights_apply (q : IVec S8192x1408 32) (s : FVec Ideal S64x1408 .bf16) (d : Fin 8192) (n : Fin 1408) :
    (weights q s (ix2 d n) : EReal) = ((((q (ix2 d n)).toInt - 8 : ℤ) : ℝ) : EReal) * s (ix2 ⟨d.val / 128, by omega⟩ n) := by
  have h8 : Ideal.ofBits .bf16 16640#16 = ((8 : ℝ) : EReal) := by
    simp [Ideal.ofBits, Ideal.ieee, -EReal.coe_mul]; norm_num
  unfold weights
  pointwise
  rw [h8]
  refine congrArg (· * (s (ix2 ⟨d.val / 128, by omega⟩ n) : EReal)) ?_
  show ((((q (ix2 d n)).toInt : ℝ) : EReal) - ((8 : ℝ) : EReal) : EReal) = _
  rw [← EReal.coe_sub]
  push_cast
  rfl

/-- A byte's low four bits. -/
theorem low_nibble : ∀ b : Fin 256, (IntOp.andi (BitVec.setWidth 32 (BitVec.ofFin (w := 8) b)) 15#32).toInt - 8 = code 0 (BitVec.ofFin (w := 8) b) := by
  decide

/-- A byte's high four bits. -/
theorem high_nibble : ∀ b : Fin 256, (IntOp.shrsi .host (BitVec.setWidth 32 (BitVec.ofFin (w := 8) b)) 4#32).toInt - 8 = code 4 (BitVec.ofFin (w := 8) b) := by
  decide

/-- The low nibbles at a position. -/
theorem lows_apply (w : Vec Ideal S8192x1408 .i8) (d : Fin 8192) (n : Fin 1408) :
    (lows w (ix2 d n)).toInt - 8 = code 0 (w (ix2 d n)) := by
  unfold lows
  pointwise
  exact low_nibble (w (ix2 d n)).toFin

/-- The high nibbles at a position. -/
theorem highs_apply (w : Vec Ideal S8192x1408 .i8) (d : Fin 8192) (n : Fin 1408) :
    (highs w (ix2 d n)).toInt - 8 = code 4 (w (ix2 d n)) := by
  unfold highs
  pointwise
  exact high_nibble (w (ix2 d n)).toFin

/-- A product at a position is the sum over all 8192 positions. -/
theorem product_apply (x : FVec Ideal S128x1x8192 .bf16) (w : FVec Ideal S8192x1408 .bf16) (a : Fin 128) (n : Fin 1408) :
    (product x w (ix4 a 0 n 0) : EReal) = ∑ d : Fin 8192, (x (ix3 a 0 d) : EReal) * w (ix2 d n) := by
  unfold product
  pointwise

/-- The gated product at a position. -/
theorem swiglu_apply (g u : FVec Ideal S128x1x2816 .f32) (a : Fin 128) (n : Fin 2816) :
    (swiglu g u (ix2 a n) : EReal) = gate (g (ix3 a 0 n)) (u (ix3 a 0 n)) := by
  unfold swiglu
  pointwise
  rfl

/-- A projection at a position: column `n` is nibble `n % 2` of byte `n / 2`. -/
theorem project_apply (x : FVec Ideal S128x1x8192 .bf16) (w : Vec Ideal S8192x1408 .i8) (s : FVec Ideal S64x2816 .bf16) (a : Fin 128) (n : Fin 2816) :
    (project x w s (ix3 a 0 n) : EReal) = ∑ d : Fin 8192, (x (ix3 a 0 d) : EReal) *
      (codeR (4 * (n.val % 2)) (w (ix2 d ⟨n.val / 2, by omega⟩)) * s (ix2 ⟨d.val / 128, by omega⟩ n) : EReal) := by
  unfold project
  have h0 := product_apply x (weights (lows w) (Host.slice S64x1408 ![0, 0] ![1, 2] s slicesBy_S64x2816_S64x1408_0s1_0s2)) a
  have h1 := product_apply x (weights (highs w) (Host.slice S64x1408 ![0, 1] ![1, 2] s slicesBy_S64x2816_S64x1408_0s1_1s2)) a
  have e0 : ∀ (d : Fin 8192) (n : Fin 1408), (weights (lows w) (Host.slice S64x1408 ![0, 0] ![1, 2] s slicesBy_S64x2816_S64x1408_0s1_0s2) (ix2 d n) : EReal)
      = codeR 0 (w (ix2 d n)) * s (ix2 ⟨d.val / 128, by omega⟩ ⟨2 * n.val, by omega⟩) := fun d n => by
    rw [weights_apply, lows_apply]
    pointwise
    refine congrArg (fun z : EReal => codeR 0 (w (ix2 d n)) * z) (congrArg s (congrArg₂ ix2 rfl (Fin.ext ?_)))
    simp only
  have e1 : ∀ (d : Fin 8192) (n : Fin 1408), (weights (highs w) (Host.slice S64x1408 ![0, 1] ![1, 2] s slicesBy_S64x2816_S64x1408_0s1_1s2) (ix2 d n) : EReal)
      = codeR 4 (w (ix2 d n)) * s (ix2 ⟨d.val / 128, by omega⟩ ⟨2 * n.val + 1, by omega⟩) := fun d n => by
    rw [weights_apply, highs_apply]
    pointwise
    refine congrArg (fun z : EReal => codeR 4 (w (ix2 d n)) * z) (congrArg s (congrArg₂ ix2 rfl (Fin.ext ?_)))
    simp only
    omega
  simp only [e0] at h0
  simp only [e1] at h1
  generalize product x (weights (lows w) _) = y0 at h0 ⊢
  generalize product x (weights (highs w) _) = y1 at h1 ⊢
  pointwise
  have hn : ∀ (k : Nat) (hk : k < 2816) (d : Fin 8192), k = n.val → s (ix2 ⟨d.val / 128, by omega⟩ ⟨k, hk⟩) = s (ix2 ⟨d.val / 128, by omega⟩ n) :=
    fun k hk d e => by subst e; rfl
  split
  · have h2 : n.val % 2 = 0 := by omega
    refine Eq.trans (congrArg (fun z => y0 (ix4 a 0 ⟨n.val / 2, by omega⟩ z)) (Subsingleton.elim _ 0)) ((h0 _).trans ?_)
    refine Finset.sum_congr rfl fun d _ => ?_
    rw [hn _ _ d (by simp only; omega), h2]
  · have h2 : n.val % 2 = 1 := by omega
    refine Eq.trans (congrArg (fun z => y1 (ix4 a 0 ⟨n.val / 2, by omega⟩ z)) (Subsingleton.elim _ 0)) ((h1 _).trans ?_)
    refine Finset.sum_congr rfl fun d _ => ?_
    rw [hn _ _ d (by simp only; omega), h2]

end Cert.Proof.Value.Ref

end
-- ==== Proof.Value.Final.lean ====
/-
  The result array: every block the kernel writes back is the reference's result at the positions the block sits at.
-/
module

public import proofs.«01_k».proof.Proof.Value.Ref

@[expose] public section

set_option maxRecDepth 16384

noncomputable section

namespace Cert.Proof.Value

open Cert.KernelIdeal Cert.KernelIdeal.Gen
open Idealize.ShloMosaic Idealize.ShloMosaic.TcCoe
open Idealize.ShloMosaic.Pipeline (Dat)

/-- The reference's result, from the argument arrays. -/
abbrev REF (x : FVec Ideal S128x1x8192 .bf16) (wg : Vec Ideal S8192x1408 .i8) (sg : FVec Ideal S64x2816 .bf16)
    (wu : Vec Ideal S8192x1408 .i8) (su : FVec Ideal S64x2816 .bf16) : FVec Ideal S128x2816 .bf16 :=
  Ref.swiglu (Ref.project x wg sg) (Ref.project x wu su)

/-- One column of a block's product is the projection's column where the block sits. -/
theorem dot_eq_project (X : FVec Ideal S128x1x8192 .bf16) (W : Vec Ideal S8192x1408 .i8) (S : FVec Ideal S64x2816 .bf16)
    (x : Vec Ideal S128x8192 .bf16) (w : Vec Ideal S8192x128 .i8) (s : Vec Ideal S64x256 .bf16) (t : Fin 11)
    (hx : ∀ a d, x (ix2 a d) = X (ix3 a 0 d))
    (hw : ∀ (d : Fin 8192) (l : Fin 128), w (ix2 d l) = W (ix2 d ⟨128 * t.val + l.val, by omega⟩))
    (hs : ∀ (g : Fin 64) (n : Fin 256), s (ix2 g n) = S (ix2 g ⟨256 * t.val + n.val, by omega⟩))
    (a : Fin 128) (n : Fin 256) :
    dot w s x a ⟨128 * (n.val % 2) + n.val / 2, by omega⟩ = Ref.project X W S (ix3 a 0 ⟨256 * t.val + n.val, by omega⟩) := by
  rw [Ref.project_apply]
  refine Finset.sum_congr rfl fun d _ => ?_
  have e0 : n.val / 2 < 128 := by omega
  have e1 : (128 * (n.val % 2) + n.val / 2) / 128 = n.val % 2 := by
    rw [Nat.mul_add_div (by norm_num), Nat.div_eq_of_lt e0, Nat.add_zero]
  have e2 : (128 * (n.val % 2) + n.val / 2) % 128 = n.val / 2 := by
    rw [Nat.mul_add_mod, Nat.mod_eq_of_lt e0]
  have e3 : (256 * t.val + n.val) % 2 = n.val % 2 := by omega
  refine congrArg₂ (fun y z : EReal => y * z) (hx a d) (congrArg₂ (fun y z : EReal => y * z) ?_ ?_)
  · refine congrArg₂ codeR (by simp only; omega) ((hw d _).trans (congrArg W (congrArg₂ ix2 rfl (Fin.ext ?_))))
    simp only
    omega
  · refine (hs _ _).trans (congrArg S (congrArg₂ ix2 rfl (Fin.ext ?_)))
    simp only
    omega

/-- The windows' block indices at a point. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] ∧ t.val < 11 :=
  (by decide +kernel : ∀ t : Fin grid0.N, _)

variable (m : (ℓ : Loc nD τ sig) → Buf (Elt Ideal) ℓ) (c : Dev nD)

/-- Dropping the axis of one does not move an element. -/
theorem flat_apply (X : FVec Ideal S128x1x8192 .bf16) (a : Fin 128) (d : Fin 8192) :
    shapeCast S128x8192 X shapeCasts_S128x1x8192_S128x8192 (ix2 a d) = X (ix3 a 0 d) := by
  pointwise

/-- The host's reshaped `x`, at a position. -/
theorem entry_x (a : Fin 128) (d : Fin 8192) :
    (V m c main_v0 : Vec Ideal S128x8192 .bf16) (ix2 a d) = m ((c : Thread nD τ).loc main_arg0) (ix3 a 0 d) := by
  have h : V m c main_v0 = shapeCast S128x8192 (m ((c : Thread nD τ).loc main_arg0)) shapeCasts_S128x1x8192_S128x8192 := by
    entry_read
    rfl
  rw [h]
  exact flat_apply _ a d

theorem iblk0_apply (t : Fin cfg0.N) (a : Fin 128) (d : Fin 8192) :
    (iblk m c 0 t : Vec Ideal S128x8192 .bf16) (ix2 a d) = m ((c : Thread nD τ).loc main_arg0) (ix3 a 0 d) := by
  refine Eq.trans ?_ (entry_x m c a d)
  blk_ext [iblk, idx t]

theorem iblk1_apply (t : Fin cfg0.N) (d : Fin 8192) (l : Fin 128) :
    (iblk m c 1 t : Vec Ideal S8192x128 .i8) (ix2 d l)
      = m ((c : Thread nD τ).loc main_arg1) (ix2 d ⟨128 * t.val + l.val, by have := (idx t).2.2.2.2.2.2; omega⟩) := by
  blk_ext [iblk, V, idx t]

theorem iblk2_apply (t : Fin cfg0.N) (g : Fin 64) (n : Fin 256) :
    (iblk m c 2 t : Vec Ideal S64x256 .bf16) (ix2 g n)
      = m ((c : Thread nD τ).loc main_arg2) (ix2 g ⟨256 * t.val + n.val, by have := (idx t).2.2.2.2.2.2; omega⟩) := by
  blk_ext [iblk, V, idx t]

theorem iblk3_apply (t : Fin cfg0.N) (d : Fin 8192) (l : Fin 128) :
    (iblk m c 3 t : Vec Ideal S8192x128 .i8) (ix2 d l)
      = m ((c : Thread nD τ).loc main_arg3) (ix2 d ⟨128 * t.val + l.val, by have := (idx t).2.2.2.2.2.2; omega⟩) := by
  blk_ext [iblk, V, idx t]

theorem iblk4_apply (t : Fin cfg0.N) (g : Fin 64) (n : Fin 256) :
    (iblk m c 4 t : Vec Ideal S64x256 .bf16) (ix2 g n)
      = m ((c : Thread nD τ).loc main_arg4) (ix2 g ⟨256 * t.val + n.val, by have := (idx t).2.2.2.2.2.2; omega⟩) := by
  blk_ext [iblk, V, idx t]

/-- The reference's result at the arguments the kernel is started on. -/
abbrev G : FVec Ideal S128x2816 .bf16 :=
  REF (m ((c : Thread nD τ).loc main_arg0)) (m ((c : Thread nD τ).loc main_arg1)) (m ((c : Thread nD τ).loc main_arg2))
    (m ((c : Thread nD τ).loc main_arg3)) (m ((c : Thread nD τ).loc main_arg4))

theorem scratch_eq : Cert.Proof.Ideal.scratchX m c = permutedVal (iblk m c 0 t0_0) := by
  unfold Cert.Proof.Ideal.scratchX
  exact permuted_eq ..

/-- A block written back, at a position. -/
theorem outAt_apply (t : Fin cfg0.N) (a : Fin 128) (n : Fin 256) :
    (Cert.Proof.Ideal.outAt m c t : Vec Ideal S128x256 .bf16) (ix2 a n)
      = G m c (ix2 a ⟨256 * t.val + n.val, by have := (idx t).2.2.2.2.2.2; omega⟩) := by
  have ht := (idx t).2.2.2.2.2.2
  unfold Cert.Proof.Ideal.outAt
  rw [outBlock_eq, scratch_eq, outOf_apply]
  refine Eq.trans ?_ (Ref.swiglu_apply _ _ a _).symm
  exact congrArg₂ gate
    (dot_eq_project _ _ _ _ _ _ ⟨t.val, ht⟩ (iblk0_apply m c t0_0) (iblk1_apply m c t) (iblk2_apply m c t) a n)
    (dot_eq_project _ _ _ _ _ _ ⟨t.val, ht⟩ (iblk0_apply m c t0_0) (iblk3_apply m c t) (iblk4_apply m c t) a n)

/-- The result array at the end. -/
theorem final : (Cert.Proof.Ideal.dats m 0 c).arrAt 5 cfg0.N = G m c := by
  refine (Cert.Proof.Ideal.dats m 0 c).arrAt_eq_of_covers 5 _ (by decide +kernel) fun t hf y => ?_
  rw [Cert.Proof.Ideal.after0_5]
  idx_vars y
  refine (outAt_apply m c t _ _).trans ?_
  blk_ext [idx t]

end Cert.Proof.Value

end
-- ==== Proof.lean ====
module

public import proofs.«01_k».proof.Defs
public import proofs.«01_k».proof.Proof.Printed.Frame
public import proofs.«01_k».proof.Proof.Ideal.Frame
public import proofs.«01_k».proof.Proof.Value.Final
public import Idealize.ShloMosaic.Lib.Quiescent

@[expose] public section

noncomputable section

namespace Cert.Proof

open Idealize.ShloMosaic Idealize.SL.Sem

/-- The reference is a straight line of host operations and declares no semaphore. -/
theorem frame_reference : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The kernel's result is the reference's, over the ideal floats. -/
theorem algebraic : Cert.algebraic_KernelIdeal_ReferenceIdeal := by
  intro m g m' g' _ hargs
  refine ⟨fun c => Value.G m c, ?_, ?_⟩
  · refine (θ_run Cert.KernelIdeal.defs _ _).mono ?_ (θ_run_and (Ideal.run_main m g) (Ideal.frame_run m g))
    rintro r ⟨h, hf⟩ c
    exact ⟨(h.out_eq c 5).trans (Value.final m c), hf.1 c⟩
  · refine (θ_run Cert.ReferenceIdeal.defs _ _).mono ?_ (Cert.ReferenceIdeal.Value.run (F := Idealize.ShloMosaic.Ideal) m' g')
    intro r h c
    obtain ⟨a0, a1, a2, a3, a4⟩ := hargs c
    refine ⟨(h c).1.trans ((Value.Ref.res_eq m' c).trans ?_), (h c).2⟩
    rw [a0, a1, a2, a3, a4]

theorem claim : Cert.Claim :=
  ⟨Cert.Kernel.Gen.facts, Cert.KernelIdeal.Gen.facts, Cert.ReferenceIdeal.Gen.facts,
    fun m g _ => Printed.frame_run m g,
    fun m g _ => Ideal.frame_run m g,
    frame_reference, trivial, algebraic⟩

end Cert.Proof

end
